-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x7168 : Shape := ⟨3, ![8, 2048, 7168]⟩
abbrev S8x2048x10240 : Shape := ⟨3, ![8, 2048, 10240]⟩
abbrev S_ : Shape := ⟨0, ![]⟩

class Facts : Prop where
  bitsLt_bf16_f32 : FTy.bits .bf16 < FTy.bits .f32
  bcast_S_S8x2048x7168 : S_.BroadcastsInDim S8x2048x7168 (![] : Fin 0 → Fin S8x2048x7168.rank)
  reducesTo_S8x2048x7168_S_d0_1_2 : S8x2048x7168.ReducesTo [0, 1, 2] S_
  h_S_ : 0 < S_.numel
  bcast_S_S8x2048x10240 : S_.BroadcastsInDim S8x2048x10240 (![] : Fin 0 → Fin S8x2048x10240.rank)
  reducesTo_S8x2048x10240_S_d0_1_2 : S8x2048x10240.ReducesTo [0, 1, 2] S_

variable [Facts]

def fn {F : FTy → Type} [FloatOps F] (main_arg0 : FVec F S8x2048x7168 .bf16) (main_arg1 : FVec F S8x2048x10240 .bf16) : IVec S_ 1 :=
  let main_v0 : FVec F S8x2048x7168 .f32 := (extf .f32 · bitsLt_bf16_f32) main_arg0
  let main_v1 : FVec F S8x2048x7168 .f32 := Host.absf main_v0
  let main_cst : FVec F S_ .f32 := constant S_ .f32 0x7F7F0000#32
  let main_v2 : FVec F S8x2048x7168 .f32 := broadcastInDim S8x2048x7168 ![] bcast_S_S8x2048x7168 main_cst
  let main_v3 : IVec S8x2048x7168 1 := cmpf .ole main_v1 main_v2
  let main_c : IVec S_ 1 := constantI S_ 1 1#1
  let main_v4 : IVec S_ 1 := (fun x v => Host.reduce IntOp.andi x v reducesTo_S8x2048x7168_S_d0_1_2 h_S_) main_v3 main_c
  let main_v5 : FVec F S8x2048x10240 .f32 := (extf .f32 · bitsLt_bf16_f32) main_arg1
  let main_v6 : FVec F S8x2048x10240 .f32 := Host.absf main_v5
  let main_cst_0 : FVec F S_ .f32 := constant S_ .f32 0x7F7F0000#32
  let main_v7 : FVec F S8x2048x10240 .f32 := broadcastInDim S8x2048x10240 ![] bcast_S_S8x2048x10240 main_cst_0
  let main_v8 : IVec S8x2048x10240 1 := cmpf .ole main_v6 main_v7
  let main_c_1 : IVec S_ 1 := constantI S_ 1 1#1
  let main_v9 : IVec S_ 1 := (fun x v => Host.reduce IntOp.andi x v reducesTo_S8x2048x10240_S_d0_1_2 h_S_) main_v8 main_c_1
  let main_v10 : IVec S_ 1 := andi main_v4 main_v9
  main_v10
-- ==== Kernel.lean ====
abbrev S8x2048x7168 : Shape := ⟨3, ![8, 2048, 7168]⟩
abbrev S8x2048x10240 : Shape := ⟨3, ![8, 2048, 10240]⟩
abbrev S16384x7168 : Shape := ⟨2, ![16384, 7168]⟩
abbrev S512x7168 : Shape := ⟨2, ![512, 7168]⟩
abbrev S7168x16384 : Shape := ⟨2, ![7168, 16384]⟩
abbrev S1024x512 : Shape := ⟨2, ![1024, 512]⟩
abbrev S32x512 : Shape := ⟨2, ![32, 512]⟩
abbrev S512x1024 : Shape := ⟨2, ![512, 1024]⟩
abbrev S32x32x512 : Shape := ⟨3, ![32, 32, 512]⟩
abbrev S32x1x512 : Shape := ⟨3, ![32, 1, 512]⟩
abbrev S16384x10240 : Shape := ⟨2, ![16384, 10240]⟩
abbrev S512x10240 : Shape := ⟨2, ![512, 10240]⟩
abbrev S7168x10240 : Shape := ⟨2, ![7168, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 13
  | .vmem => 22
  | .smem => 0
  | _ => 0

abbrev bufTy : (tb : Table) → Fin (tcTables nBuf tb) → BufTy
  | .hbm, ⟨0, _⟩ => ⟨S8x2048x7168, .bf16⟩
  | .hbm, ⟨1, _⟩ => ⟨S8x2048x10240, .bf16⟩
  | .hbm, ⟨2, _⟩ => ⟨S16384x7168, .bf16⟩
  | .hbm, ⟨3, _⟩ => ⟨S16384x7168, .fp8e4m3⟩
  | .hbm, ⟨4, _⟩ => ⟨S512x7168, .f32⟩
  | .hbm, ⟨5, _⟩ => ⟨S7168x16384, .bf16⟩
  | .hbm, ⟨6, _⟩ => ⟨S16384x10240, .bf16⟩
  | .hbm, ⟨7, _⟩ => ⟨S16384x10240, .fp8e5m2⟩
  | .hbm, ⟨8, _⟩ => ⟨S512x10240, .f32⟩
  | .hbm, ⟨9, _⟩ => ⟨S16384x10240, .bf16⟩
  | .hbm, ⟨10, _⟩ => ⟨S7168x10240, .f32⟩
  | .hbm, ⟨11, _⟩ => ⟨S8x2048x7168, .fp8e4m3⟩
  | .hbm, ⟨12, _⟩ => ⟨S8x2048x10240, .fp8e5m2⟩
  | .local _ .vmem, ⟨0, _⟩ => ⟨S1024x512, .bf16⟩
  | .local _ .vmem, ⟨1, _⟩ => ⟨S1024x512, .bf16⟩
  | .local _ .vmem, ⟨2, _⟩ => ⟨S1024x512, .fp8e4m3⟩
  | .local _ .vmem, ⟨3, _⟩ => ⟨S1024x512, .fp8e4m3⟩
  | .local _ .vmem, ⟨4, _⟩ => ⟨S32x512, .f32⟩
  | .local _ .vmem, ⟨5, _⟩ => ⟨S32x512, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .fp8e5m2⟩
  | .local _ .vmem, ⟨11, _⟩ => ⟨S1024x512, .fp8e5m2⟩
  | .local _ .vmem, ⟨12, _⟩ => ⟨S32x512, .f32⟩
  | .local _ .vmem, ⟨13, _⟩ => ⟨S32x512, .f32⟩
  | .local _ .vmem, ⟨14, _⟩ => ⟨S1024x512, .bf16⟩
  | .local _ .vmem, ⟨15, _⟩ => ⟨S1024x512, .bf16⟩
  | .local _ .vmem, ⟨16, _⟩ => ⟨S1024x2048, .bf16⟩
  | .local _ .vmem, ⟨17, _⟩ => ⟨S1024x2048, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .f32⟩
  | .local _ .vmem, ⟨21, _⟩ => ⟨S1024x1024, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![7, 10, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S8x2048x7168 : Shape := ⟨3, ![8, 2048, 7168]⟩
abbrev S8x2048x10240 : Shape := ⟨3, ![8, 2048, 10240]⟩
abbrev S16384x7168 : Shape := ⟨2, ![16384, 7168]⟩
abbrev S512x32x7168 : Shape := ⟨3, ![512, 32, 7168]⟩
abbrev S_ : Shape := ⟨0, ![]⟩
abbrev S512x7168 : Shape := ⟨2, ![512, 7168]⟩
abbrev S512x1x7168 : Shape := ⟨3, ![512, 1, 7168]⟩
abbrev S16384x10240 : Shape := ⟨2, ![16384, 10240]⟩
abbrev S512x32x10240 : Shape := ⟨3, ![512, 32, 10240]⟩
abbrev S512x10240 : Shape := ⟨2, ![512, 10240]⟩
abbrev S512x1x10240 : Shape := ⟨3, ![512, 1, 10240]⟩
abbrev S7168x10240 : Shape := ⟨2, ![7168, 10240]⟩

abbrev nBuf : Space → Nat
  | .hbm => 109
  | .vmem => 6
  | .smem => 0
  | _ => 0

abbrev bufTy : (tb : Table) → Fin (tcTables nBuf tb) → BufTy
  | .hbm, ⟨0, _⟩ => ⟨S8x2048x7168, .bf16⟩
  | .hbm, ⟨1, _⟩ => ⟨S8x2048x10240, .bf16⟩
  | .hbm, ⟨2, _⟩ => ⟨S16384x7168, .bf16⟩
  | .hbm, ⟨3, _⟩ => ⟨S16384x7168, .f32⟩
  | .hbm, ⟨4, _⟩ => ⟨S512x32x7168, .f32⟩
  | .hbm, ⟨5, _⟩ => ⟨S512x32x7168, .f32⟩
  | .hbm, ⟨6, _⟩ => ⟨S_, .f32⟩
  | .hbm, ⟨7, _⟩ => ⟨S512x7168, .f32⟩
  | .hbm, ⟨8, _⟩ => ⟨S_, .f32⟩
  | .hbm, ⟨9, _⟩ => ⟨S512x7168, .f32⟩
  | .hbm, ⟨10, _⟩ => ⟨S512x7168, .f32⟩
  | .hbm, ⟨11, _⟩ => ⟨S_, .f32⟩
  | .hbm, ⟨12, _⟩ => ⟨S512x7168, .f32⟩
  | .hbm, ⟨13, _⟩ => ⟨S512x7168, .i1⟩
  | .hbm, ⟨14, _⟩ => ⟨S512x7168, .f32⟩
  | .hbm, ⟨15, _⟩ => ⟨S_, .f32⟩
  | .hbm, ⟨16, _⟩ => ⟨S512x7168, .f32⟩
  | .hbm, ⟨17, _⟩ => ⟨S512x7168, .f32⟩
  | .hbm, ⟨18, _⟩ => ⟨S512x7168, .f32⟩
  | .hbm, ⟨19, _⟩ => ⟨S512x7168, .f32⟩
  | .hbm, ⟨20, _⟩ => ⟨S_, .f32⟩
  | .hbm, ⟨21, _⟩ => ⟨S512x7168, .f32⟩
  | .hbm, ⟨22, _⟩ => ⟨S512x7168, .f32⟩
  | .hbm, ⟨23, _⟩ => ⟨S_, .f32⟩
  | .hbm, ⟨24, _⟩ => ⟨S_, .f32⟩
  | .hbm, ⟨25, _⟩ => ⟨S512x7168, .f32⟩
  | .hbm, ⟨26, _⟩ => ⟨S512x7168, .f32⟩
  | .hbm, ⟨27, _⟩ => ⟨S_, .f32⟩
  | .hbm, ⟨28, _⟩ => ⟨S512x7168, .f32⟩
  | .hbm, ⟨29, _⟩ => ⟨S512x7168, .f32⟩
  | .hbm, ⟨30, _⟩ => ⟨S512x7168, .f32⟩
  | .hbm, ⟨31, _⟩ => ⟨S_, .f32⟩
  | .hbm, ⟨32, _⟩ => ⟨S512x7168, .f32⟩
  | .hbm, ⟨33, _⟩ => ⟨S512x7168, .f32⟩
  | .hbm, ⟨34, _⟩ => ⟨S512x1x7168, .f32⟩
  | .hbm, ⟨35, _⟩ => ⟨S512x32x7168, .f32⟩
  | .hbm, ⟨36, _⟩ => ⟨S512x32x7168, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x32x7168, .f32⟩
  | .hbm, ⟨41, _⟩ => ⟨S512x32x7168, .f32⟩
  | .hbm, ⟨42, _⟩ => ⟨S_, .f32⟩
  | .hbm, ⟨43, _⟩ => ⟨S512x32x7168, .f32⟩
  | .hbm, ⟨44, _⟩ => ⟨S512x32x7168, .f32⟩
  | .hbm, ⟨45, _⟩ => ⟨S16384x7168, .f32⟩
  | .hbm, ⟨46, _⟩ => ⟨S16384x10240, .bf16⟩
  | .hbm, ⟨47, _⟩ => ⟨S16384x10240, .f32⟩
  | .hbm, ⟨48, _⟩ => ⟨S512x32x10240, .f32⟩
  | .hbm, ⟨49, _⟩ => ⟨S512x32x10240, .f32⟩
  | .hbm, ⟨50, _⟩ => ⟨S_, .f32⟩
  | .hbm, ⟨51, _⟩ => ⟨S512x10240, .f32⟩
  | .hbm, ⟨52, _⟩ => ⟨S_, .f32⟩
  | .hbm, ⟨53, _⟩ => ⟨S512x10240, .f32⟩
  | .hbm, ⟨54, _⟩ => ⟨S512x10240, .f32⟩
  | .hbm, ⟨55, _⟩ => ⟨S_, .f32⟩
  | .hbm, ⟨56, _⟩ => ⟨S512x10240, .f32⟩
  | .hbm, ⟨57, _⟩ => ⟨S512x10240, .i1⟩
  | .hbm, ⟨58, _⟩ => ⟨S512x10240, .f32⟩
  | .hbm, ⟨59, _⟩ => ⟨S_, .f32⟩
  | .hbm, ⟨60, _⟩ => ⟨S512x10240, .f32⟩
  | .hbm, ⟨61, _⟩ => ⟨S512x10240, .f32⟩
  | .hbm, ⟨62, _⟩ => ⟨S512x10240, .f32⟩
  | .hbm, ⟨63, _⟩ => ⟨S512x10240, .f32⟩
  | .hbm, ⟨64, _⟩ => ⟨S_, .f32⟩
  | .hbm, ⟨65, _⟩ => ⟨S512x10240, .f32⟩
  | .hbm, ⟨66, _⟩ => ⟨S512x10240, .f32⟩
  | .hbm, ⟨67, _⟩ => ⟨S_, .f32⟩
  | .hbm, ⟨68, _⟩ => ⟨S_, .f32⟩
  | .hbm, ⟨69, _⟩ => ⟨S512x10240, .f32⟩
  | .hbm, ⟨70, _⟩ => ⟨S512x10240, .f32⟩
  | .hbm, ⟨71, _⟩ => ⟨S_, .f32⟩
  | .hbm, ⟨72, _⟩ => ⟨S512x10240, .f32⟩
  | .hbm, ⟨73, _⟩ => ⟨S512x10240, .f32⟩
  | .hbm, ⟨74, _⟩ => ⟨S512x10240, .f32⟩
  | .hbm, ⟨75, _⟩ => ⟨S_, .f32⟩
  | .hbm, ⟨76, _⟩ => ⟨S512x10240, .f32⟩
  | .hbm, ⟨77, _⟩ => ⟨S512x10240, .f32⟩
  | .hbm, ⟨78, _⟩ => ⟨S512x1x10240, .f32⟩
  | .hbm, ⟨79, _⟩ => ⟨S512x32x10240, .f32⟩
  | .hbm, ⟨80, _⟩ => ⟨S512x32x10240, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S512x32x10240, .f32⟩
  | .hbm, ⟨85, _⟩ => ⟨S512x32x10240, .f32⟩
  | .hbm, ⟨86, _⟩ => ⟨S_, .f32⟩
  | .hbm, ⟨87, _⟩ => ⟨S512x32x10240, .f32⟩
  | .hbm, ⟨88, _⟩ => ⟨S512x32x10240, .f32⟩
  | .hbm, ⟨89, _⟩ => ⟨S16384x10240, .f32⟩
  | .hbm, ⟨90, _⟩ => ⟨S16384x7168, .fp8e4m3⟩
  | .hbm, ⟨91, _⟩ => ⟨S16384x7168, .bf16⟩
  | .hbm, ⟨92, _⟩ => ⟨S16384x10240, .fp8e5m2⟩
  | .hbm, ⟨93, _⟩ => ⟨S16384x10240, .bf16⟩
  | .hbm, ⟨94, _⟩ => ⟨S512x32x7168, .bf16⟩
  | .hbm, ⟨95, _⟩ => ⟨S512x7168, .bf16⟩
  | .hbm, ⟨96, _⟩ => ⟨S512x1x7168, .bf16⟩
  | .hbm, ⟨97, _⟩ => ⟨S512x32x7168, .bf16⟩
  | .hbm, ⟨98, _⟩ => ⟨S512x32x7168, .bf16⟩
  | .hbm, ⟨99, _⟩ => ⟨S16384x7168, .bf16⟩
  | .hbm, ⟨100, _⟩ => ⟨S512x32x10240, .bf16⟩
  | .hbm, ⟨101, _⟩ => ⟨S512x10240, .bf16⟩
  | .hbm, ⟨102, _⟩ => ⟨S512x1x10240, .bf16⟩
  | .hbm, ⟨103, _⟩ => ⟨S512x32x10240, .bf16⟩
  | .hbm, ⟨104, _⟩ => ⟨S512x32x10240, .bf16⟩
  | .hbm, ⟨105, _⟩ => ⟨S16384x10240, .bf16⟩
  | .hbm, ⟨106, _⟩ => ⟨S7168x10240, .f32⟩
  | .hbm, ⟨107, _⟩ => ⟨S8x2048x7168, .fp8e4m3⟩
  | .hbm, ⟨108, _⟩ => ⟨S8x2048x10240, .fp8e5m2⟩
  | .local _ .vmem, ⟨0, _⟩ => ⟨S16384x7168, .f32⟩
  | .local _ .vmem, ⟨1, _⟩ => ⟨S16384x10240, .f32⟩
  | .local _ .vmem, ⟨2, _⟩ => ⟨S16384x7168, .fp8e4m3⟩
  | .local _ .vmem, ⟨3, _⟩ => ⟨S16384x7168, .bf16⟩
  | .local _ .vmem, ⟨4, _⟩ => ⟨S16384x10240, .fp8e5m2⟩
  | .local _ .vmem, ⟨5, _⟩ => ⟨S16384x10240, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v43 : Ref sig .tc := ⟨.hbm, 70, rfl⟩
abbrev main_cst_15 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_16 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_cst_18 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v52 : Ref sig .tc := ⟨.hbm, 88, rfl⟩
abbrev main_v53 : Ref sig .tc := ⟨.hbm, 89, rfl⟩
abbrev main_v54_0 : Ref sig .tc := ⟨.hbm, 90, rfl⟩
abbrev main_v54_1 : Ref sig .tc := ⟨.hbm, 91, rfl⟩
abbrev main_v54_2 : Ref sig .tc := ⟨.hbm, 92, rfl⟩
abbrev main_v54_3 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x10240 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The run of the kernel's program with its five results read: the launch the generated frame makes, with every unscoped
  buffer's last contents (`W6`) kept in the post at the result arrays.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run ends with each result array at the last boundary's contents and the arguments as launched. -/
theorem run_values : θ_run defs (onTc (τ := τ) (main (F := F))) ⟨m, fun _ => 0, ρ⟩ (fun r => ∀ c : Dev nD,
      r.2.mem ((c.tc : Thread nD τ).loc main_v4) = W6 m ρ c (Proc.devRef .tc main_v4)
      ∧ r.2.mem ((c.tc : Thread nD τ).loc main_v5) = W6 m ρ c (Proc.devRef .tc main_v5)
      ∧ r.2.mem ((c.tc : Thread nD τ).loc main_v1_1) = W6 m ρ c (Proc.devRef .tc main_v1_1)
      ∧ r.2.mem ((c.tc : Thread nD τ).loc main_v6) = W6 m ρ c (Proc.devRef .tc main_v6)
      ∧ r.2.mem ((c.tc : Thread nD τ).loc main_v3_1) = W6 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v4 (by decide)), h c _ (mem_uc main_v5 (by decide)), h c _ (mem_uc main_v1_1 (by decide)),
       h c _ (mem_uc main_v6 (by decide)), h c _ (mem_uc main_v3_1 (by decide)),
       (h c _ (mem_uc main_arg0 (by decide))).trans (W6_main_arg0 m ρ c),
       (h c _ (mem_uc main_arg1 (by decide))).trans (W6_main_arg1 m ρ c)⟩)

end Cert.KernelIdeal.Gen

end
-- ==== Proof.Exponent.lean ====
/-
  The block scale of a microscaling quantiser, at the extended reals: the kernel finds the exponent field of the block's
  ratio `y` by a binary search over words (a word is a power of two read as an f32), the reference by the base-2
  logarithm. For `0 ≤ y < 2 ^ 126` both give the same scale and the same inverse scale.
-/
module

public import Idealize.ShloMosaic.Lib.IdealHost

@[expose] public section

noncomputable section

namespace Cert.Scale

open Idealize.ShloMosaic

/-! ### Powers of two as f32 words -/

/-- The value of the f32 word whose exponent field is `e` and whose other bits are zero: `0`, a power of two, or `+∞`. -/
def G (e : ℕ) : EReal := if e = 0 then 0 else if 255 ≤ e then ⊤ else (((2 : ℝ) ^ ((e : ℤ) - 127) : ℝ) : EReal)

/-- The three fields of the word `e · 2 ^ 23`, `e ≤ 255`: sign clear, exponent `e`, fraction zero. -/
theorem fields : ∀ e : Fin 256, ((BitVec.ofNat 32 (e.val * 2 ^ 23)).extractLsb' (8 + 23) 1 == 1#1) = false
    ∧ ((BitVec.ofNat 32 (e.val * 2 ^ 23)).extractLsb' 23 8).toNat = e.val
    ∧ ((BitVec.ofNat 32 (e.val * 2 ^ 23)).extractLsb' 0 23).toNat = 0 := by decide +kernel

/-- The word `e · 2 ^ 23` denotes `G e`. -/
theorem ofBits_word (e : ℕ) (h : e < 256) : Ideal.ofBits .f32 (BitVec.ofNat 32 (e * 2 ^ 23)) = G e := by
  obtain ⟨h1, h2, h3⟩ := fields ⟨e, h⟩
  dsimp only at h1 h2 h3
  show Ideal.ieee 8 23 _ = _
  unfold Ideal.ieee
  rw [h1, h2, h3]
  unfold G
  by_cases hz : e = 0
  · subst hz; simp
  by_cases ht : e = 255
  · subst ht; simp
  have h255 : ¬ e = 2 ^ 8 - 1 := by norm_num; exact ht
  dsimp only
  rw [if_neg h255, if_neg hz, if_neg hz, if_neg (show ¬ 255 ≤ e by omega)]
  have hp : (2 : ℝ) ^ ((e : ℤ) - 127) = 2 ^ 23 * (2 : ℝ) ^ ((e : ℤ) - 127 - 23) := by
    rw [← zpow_natCast, ← zpow_add₀ (two_ne_zero)]
    congr 1; push_cast; ring
  rw [hp]
  norm_num

/-- `G` at an exponent field in the normal range. -/
theorem G_mid (e : ℕ) (h0 : e ≠ 0) (h1 : e < 255) : G e = (((2 : ℝ) ^ ((e : ℤ) - 127) : ℝ) : EReal) := by
  unfold G; rw [if_neg h0, if_neg (by omega)]

/-! ### The binary search -/

/-- One step of the search: the bit `k` is added to the word `f` when the sum still denotes a number at most `y`. -/
def step (y : EReal) (f k : BitVec 32) : BitVec 32 := if Ideal.ofBits .f32 (f + k) ≤ y then f + k else f

/-- The exponent field the kernel finds: eight steps, from the field's greatest bit to its least. -/
def field (y : EReal) : BitVec 32 :=
  step y (step y (step y (step y (step y (step y (step y (step y 0#32 1073741824#32) 536870912#32) 268435456#32)
    134217728#32) 67108864#32) 33554432#32) 16777216#32) 8388608#32

/-- `f` is the word of a field `E`, and `y` lies from `G E` up to (and without) `G (E + n)`. -/
def Inv (y : EReal) (f : BitVec 32) (n : ℕ) : Prop :=
  ∃ E : ℕ, f = BitVec.ofNat 32 (E * 2 ^ 23) ∧ G E ≤ y ∧ y < G (E + n) ∧ E + n ≤ 256

/-- A step halves the range. -/
theorem step_inv (y : EReal) (f k : BitVec 32) (n : ℕ) (hn : 0 < n) (hk : k = BitVec.ofNat 32 (n * 2 ^ 23))
    (h : Inv y f (n + n)) : Inv y (step y f k) n := by
  obtain ⟨E, rfl, hlo, hhi, hE⟩ := h
  have hs : BitVec.ofNat 32 (E * 2 ^ 23) + k = BitVec.ofNat 32 ((E + n) * 2 ^ 23) := by
    subst hk; rw [← BitVec.ofNat_add, ← Nat.add_mul]
  unfold step
  rw [hs, ofBits_word (E + n) (by omega)]
  by_cases hc : G (E + n) ≤ y
  · rw [if_pos hc]
    exact ⟨E + n, rfl, hc, by rwa [Nat.add_assoc], by omega⟩
  · rw [if_neg hc]
    exact ⟨E, rfl, hlo, not_le.mp hc, by omega⟩

/-- The search ends at the greatest field whose value is at most `y`. -/
theorem field_inv (y : EReal) (h0 : 0 ≤ y) (h1 : y < ⊤) : Inv y (field y) 1 := by
  have hz : Inv y 0#32 (128 + 128) := ⟨0, by simp, by simpa [G] using h0, by simpa [G] using h1, by omega⟩
  exact step_inv y _ _ 1 (by omega) (by rfl) <| step_inv y _ _ 2 (by omega) (by rfl) <|
    step_inv y _ _ 4 (by omega) (by rfl) <| step_inv y _ _ 8 (by omega) (by rfl) <|
    step_inv y _ _ 16 (by omega) (by rfl) <| step_inv y _ _ 32 (by omega) (by rfl) <|
    step_inv y _ _ 64 (by omega) (by rfl) <| step_inv y _ _ 128 (by omega) (by rfl) hz

/-! ### The kernel's scales and the reference's -/

/-- The kernel's scale: one where the field is zero, else the power of two whose field is one more. -/
def kscale (y : EReal) : EReal :=
  Ideal.ofBits .f32 (if field y = 0#32 then 1065353216#32 else field y + 8388608#32)

/-- The kernel's inverse scale. -/
def kinv (y : EReal) : EReal :=
  Ideal.ofBits .f32 (if field y = 0#32 then 1065353216#32 else 2122317824#32 - field y)

/-- The reference's exponent: zero below the least normal f32, else `⌊log₂ y⌋ + 1`. -/
def rexp (y : EReal) : EReal :=
  if y < Ideal.ofBits .f32 0x00800000#32 then Ideal.ofBits .f32 0x00000000#32
  else Ideal.liftRound Int.floor (Ideal.div (Ideal.log y) (Ideal.log (Ideal.ofBits .f32 0x40000000#32)))
    + Ideal.ofBits .f32 0x3F800000#32

/-- The reference's scale, two to that exponent, -/
def rscale (y : EReal) : EReal := Ideal.pow (Ideal.ofBits .f32 0x40000000#32) (rexp y)

/-- and its inverse scale. -/
def rinv (y : EReal) : EReal := Ideal.pow (Ideal.ofBits .f32 0x40000000#32) (-(rexp y))

/-- The word of two. -/
theorem two_word : Ideal.ofBits .f32 0x40000000#32 = ((2 : ℝ) : EReal) := by
  have := ofBits_word 128 (by omega)
  rw [show (0x40000000#32 : BitVec 32) = BitVec.ofNat 32 (128 * 2 ^ 23) from rfl, this, G_mid _ (by omega) (by omega)]
  norm_num

/-- The word of one. -/
theorem one_word : Ideal.ofBits .f32 1065353216#32 = 1 := Ideal.ofBits_one_f32

/-- A field below 256 times `2 ^ 23` is the zero word only at field zero. -/
theorem word_eq_zero : ∀ e : Fin 256, BitVec.ofNat 32 (e.val * 2 ^ 23) = 0#32 ↔ e.val = 0 := by decide +kernel

/-- The inverse scale's word, from the field. -/
theorem inv_word : ∀ e : Fin 254, 2122317824#32 - BitVec.ofNat 32 (e.val * 2 ^ 23) = BitVec.ofNat 32 ((253 - e.val) * 2 ^ 23) := by
  decide +kernel

/-- Between two consecutive powers of two the base-2 logarithm has the exponent as its integer part. -/
theorem floor_log (r : ℝ) (k : ℤ) (h0 : (2 : ℝ) ^ k ≤ r) (h1 : r < (2 : ℝ) ^ (k + 1)) :
    ⌊Real.log r * (1 / Real.log 2)⌋ = k := by
  have hr : 0 < r := lt_of_lt_of_le (zpow_pos two_pos k) h0
  have h2 : 0 < Real.log 2 := Real.log_pos one_lt_two
  rw [mul_one_div, Int.floor_eq_iff]
  constructor
  · rw [le_div_iff₀ h2, ← Real.log_zpow]
    exact Real.log_le_log (zpow_pos two_pos k) h0
  · rw [div_lt_iff₀ h2, show ((k : ℝ) + 1) = ((k + 1 : ℤ) : ℝ) by push_cast; rfl, ← Real.log_zpow]
    exact Real.log_lt_log hr h1

/-- A power of two to an integral real exponent. -/
theorem pow_two_int (k : ℤ) : Ideal.pow ((2 : ℝ) : EReal) (((k : ℝ)) : EReal) = (((2 : ℝ) ^ k : ℝ) : EReal) := by
  rw [Ideal.pow_coe_coe]
  exact congrArg _ (Real.rpow_intCast 2 k)

/-- THE SCALES AGREE: for `0 ≤ y < 2 ^ 126` the kernel's scale is the reference's, and so is the inverse scale. -/
theorem scales_eq (y : EReal) (h0 : 0 ≤ y) (h1 : y < G 253) : kscale y = rscale y ∧ kinv y = rinv y := by
  have hG : G 253 < ⊤ := by rw [G_mid _ (by omega) (by omega)]; exact EReal.coe_lt_top _
  obtain ⟨E, hf, hlo, hhi, hE⟩ := field_inv y h0 (h1.trans hG)
  have hmin : Ideal.ofBits .f32 0x00800000#32 = G 1 := ofBits_word 1 (by omega)
  unfold kscale kinv rscale rinv
  rw [two_word]
  by_cases hz : E = 0
  · subst hz
    have hf' : field y = 0#32 := hf
    rw [if_pos hf', if_pos hf', one_word]
    have he : rexp y = ((0 : ℝ) : EReal) := by
      unfold rexp
      rw [hmin, if_pos (by simpa using hhi)]
      simp [Ideal.ofBits, Ideal.ieee]
    rw [he]
    have := pow_two_int 0
    simp only [Int.cast_zero, zpow_zero] at this
    rw [← EReal.coe_neg, neg_zero, this]
    simp
  · -- the field is in the normal range
    have hE253 : E < 253 := by
      by_contra hc
      have : G 253 ≤ G E := by
        rw [G_mid 253 (by omega) (by omega)]
        by_cases ht : 255 ≤ E
        · unfold G; rw [if_neg hz, if_pos ht]; exact le_top
        · rw [G_mid E hz (by omega)]
          exact EReal.coe_le_coe_iff.mpr (zpow_le_zpow_right₀ one_le_two (by omega))
      exact absurd (lt_of_lt_of_le h1 (this.trans hlo)) (lt_irrefl _)
    have hne : ¬ field y = 0#32 := by
      rw [hf]; exact fun h => hz ((word_eq_zero ⟨E, by omega⟩).mp h)
    rw [if_neg hne, if_neg hne, hf]
    have hadd : BitVec.ofNat 32 (E * 2 ^ 23) + 8388608#32 = BitVec.ofNat 32 ((E + 1) * 2 ^ 23) := by
      rw [Nat.add_mul, BitVec.ofNat_add]; rfl
    rw [hadd, ofBits_word _ (by omega), inv_word ⟨E, by omega⟩, ofBits_word _ (by dsimp only; omega)]
    -- `y` is a real between two consecutive powers of two
    rw [G_mid E hz (by omega)] at hlo
    rw [G_mid (E + 1) (by omega) (by omega)] at hhi
    obtain ⟨r, rfl⟩ : ∃ r : ℝ, y = (r : EReal) :=
      ⟨y.toReal, (EReal.coe_toReal (ne_of_lt (h1.trans hG)) (ne_of_gt (lt_of_lt_of_le EReal.bot_lt_zero h0))).symm⟩
    have hlo' : (2 : ℝ) ^ ((E : ℤ) - 127) ≤ r := EReal.coe_le_coe_iff.mp hlo
    have hhi' : r < (2 : ℝ) ^ ((E : ℤ) - 127 + 1) := by
      have := EReal.coe_lt_coe_iff.mp hhi
      rwa [show ((E + 1 : ℕ) : ℤ) - 127 = (E : ℤ) - 127 + 1 by push_cast; ring] at this
    have hr : 0 < r := lt_of_lt_of_le (zpow_pos two_pos _) hlo'
    have he : rexp (r : EReal) = ((((E : ℤ) - 126 : ℤ) : ℝ) : EReal) := by
      unfold rexp
      rw [hmin, if_neg, two_word, Ideal.log_coe, Ideal.log_coe, if_neg (not_le.mpr hr), if_neg (by norm_num),
        Ideal.div_coe (Real.log_pos one_lt_two).ne', ← EReal.coe_mul, Ideal.liftRound_coe,
        floor_log r _ hlo' hhi', Ideal.ofBits_one_f32, ← EReal.coe_one, ← EReal.coe_add]
      · congr 1; push_cast; ring
      · rw [not_lt, G_mid 1 (by omega) (by omega)]
        refine le_trans (EReal.coe_le_coe_iff.mpr (zpow_le_zpow_right₀ one_le_two ?_)) hlo
        omega
    rw [he, pow_two_int, ← EReal.coe_neg, ← Int.cast_neg, pow_two_int, G_mid _ (by omega) (by omega),
      G_mid _ (by dsimp only; omega) (by dsimp only; omega)]
    constructor
    · congr 2; push_cast; ring
    · congr 2; dsimp only; omega

end Cert.Scale

end
-- ==== Proof.Spec.lean ====
/-
  What both programs compute, over arrays read at natural coordinates: the ratio of a block of 32 tokens, the codes, the
  dequantised values. Each takes the scale and the inverse scale as functions of the block's ratio, so that the kernel
  and the reference are instances of the same definitions.
-/
module

public import proofs.«01_k».proof.Proof.Exponent
public import Idealize.ShloMosaic.Lib.ValueIdx

@[expose] public section

noncomputable section

namespace Cert.Spec

open Idealize.ShloMosaic

/-- A rank-2 array read at natural coordinates (zero outside the array). -/
def nat2 {a b : ℕ} (X : (⟨2, ![a, b]⟩ : Shape).Idx → EReal) (t n : ℕ) : EReal :=
  if h : t < a ∧ n < b then X (ValueIdx.ix2 ⟨t, h.1⟩ ⟨n, h.2⟩) else 0

/-- At an index of the array it is the array. -/
theorem nat2_of {a b : ℕ} (X : (⟨2, ![a, b]⟩ : Shape).Idx → EReal) (j : (⟨2, ![a, b]⟩ : Shape).Idx) (t n : ℕ)
    (ht : t = (j 0).val) (hn : n = (j 1).val) : nat2 X t n = X j := by
  subst ht hn
  unfold nat2
  rw [dif_pos ⟨(j 0).isLt, (j 1).isLt⟩]
  congr 1
  funext d
  match d with
  | ⟨0, _⟩ => rfl
  | ⟨1, _⟩ => rfl

/-- The greatest absolute value of 32 values. -/
def amax (f : Fin 32 → EReal) : EReal := (Finset.univ : Finset (Fin 32)).fold max ⊥ fun i => max (f i) (-(f i))

/-- A block's ratio: its greatest absolute value times the constant of the format (one over its greatest number). -/
def ratio (cw : BitVec 32) (X : ℕ → ℕ → EReal) (b c : ℕ) : EReal :=
  amax (fun i => X (32 * b + i.val) c) * Ideal.ofBits .f32 cw

/-- A value times its block's inverse scale, clipped to the format's range. -/
def codes (inv : EReal → EReal) (cw lo hi : BitVec 32) (X : ℕ → ℕ → EReal) (t c : ℕ) : EReal :=
  min (Ideal.ofBits .f32 hi) (max (Ideal.ofBits .f32 lo) (X t c * inv (ratio cw X (t / 32) c)))

/-- A code times its block's scale. -/
def deq (sc inv : EReal → EReal) (cw lo hi : BitVec 32) (X : ℕ → ℕ → EReal) (t c : ℕ) : EReal :=
  codes inv cw lo hi X t c * sc (ratio cw X (t / 32) c)

/-- A block of an array has the array's ratios, -/
theorem ratio_shift (cw : BitVec 32) (X Y : ℕ → ℕ → EReal) (b b' c c' : ℕ)
    (h : ∀ i < 32, X (32 * b + i) c = Y (32 * b' + i) c') : ratio cw X b c = ratio cw Y b' c' := by
  unfold ratio
  congr 2
  funext i
  exact h i.val i.isLt

/-- its codes, -/
theorem codes_shift (inv : EReal → EReal) (cw lo hi : BitVec 32) (X Y : ℕ → ℕ → EReal) (t t' c c' : ℕ)
    (hm : t % 32 = t' % 32) (h : ∀ i < 32, X (32 * (t / 32) + i) c = Y (32 * (t' / 32) + i) c') :
    codes inv cw lo hi X t c = codes inv cw lo hi Y t' c' := by
  unfold codes
  rw [ratio_shift cw X Y (t / 32) (t' / 32) c c' h]
  have := h (t % 32) (Nat.mod_lt _ (by omega))
  rw [Nat.div_add_mod, hm, Nat.div_add_mod] at this
  rw [this]

/-- and its dequantised values. -/
theorem deq_shift (sc inv : EReal → EReal) (cw lo hi : BitVec 32) (X Y : ℕ → ℕ → EReal) (t t' c c' : ℕ)
    (hm : t % 32 = t' % 32) (h : ∀ i < 32, X (32 * (t / 32) + i) c = Y (32 * (t' / 32) + i) c') :
    deq sc inv cw lo hi X t c = deq sc inv cw lo hi Y t' c' := by
  unfold deq
  rw [codes_shift inv cw lo hi X Y t t' c c' hm h, ratio_shift cw X Y (t / 32) (t' / 32) c c' h]

end Cert.Spec

end
-- ==== Proof.BlockX.lean ====
/-
  One block of the first quantiser: what its three stores hold at an index, from the 1024 × 512 block it reads.
-/
module

public import proofs.«01_k».proof.Proof.Spec
public import proofs.«01_k».proof.Proof.Gen.KernelIdeal.Skeleton
public import Idealize.ShloMosaic.Lib.Pipeline.Value
public import Idealize.ShloMosaic.PureOps.Ideal.Laws

@[expose] public section

set_option maxRecDepth 16384

noncomputable section

namespace Cert.KernelIdeal.Gen

open Idealize.ShloMosaic Cert.Spec Cert.Scale
open Idealize.ShloMosaic.ValueIdx (ix2 ix3)

/-- A vector step of the binary search is a scalar step at each index. -/
theorem step_vec0 (y : FVec Ideal S32x512 .f32) (f k : IVec S32x512 32) (j : S32x512.Idx) :
    select (cmpf .oge y (bitcastToFloat .f32 (addi f k))) (addi f k) f j = step (y j) (f j) (k j) := by
  show (if BitVec.ofBool (decide (Ideal.ofBits .f32 (f j + k j) ≤ y j)) = 1 then f j + k j else f j) = _
  unfold step
  by_cases h : Ideal.ofBits .f32 (f j + k j) ≤ y j
  · simp [h]
  · simp [h]

/-- The exponent field of every block. -/
theorem pay1_0 (v : Vec Ideal S1024x512 .bf16) (j : S32x512.Idx) :
    k0_pay1 (k0_pay8 v) (k0_pay9 v) k0_pay10 j = field (k0_pay8 v j) := by
  unfold k0_pay1 k0_pay9 k0_pay10 field
  dsimp only
  simp only [step_vec0]
  rfl

/-- A choice between two words on whether a word is zero. -/
theorem zero_choice0 (f a b : BitVec 32) : Scalar.select (Scalar.cmpi .eq f 0#32) a b = if f = 0#32 then a else b := by
  show (if BitVec.ofBool (decide (f = 0#32)) = 1 then a else b) = _
  by_cases h : f = 0#32
  · simp [h]
  · simp [h]

/-- The stored scale, from the field. -/
theorem pay3_field0 (y : FVec Ideal S32x512 .f32) (f k : IVec S32x512 32) (j : S32x512.Idx) :
    k0_pay3 y f k j = Ideal.ofBits .f32 (if k0_pay1 y f k j = 0#32 then 1065353216#32 else k0_pay1 y f k j + 8388608#32) := by
  rw [← zero_choice0]; rfl

/-- The stored scale of every block, -/
theorem pay3_0 (v : Vec Ideal S1024x512 .bf16) (j : S32x512.Idx) :
    k0_pay3 (k0_pay8 v) (k0_pay9 v) k0_pay10 j = kscale (k0_pay8 v j) := by
  rw [pay3_field0, pay1_0]; rfl

/-- The block's tokens in groups of 32. -/
theorem pay7_0 (v : Vec Ideal S1024x512 .bf16) (j : S32x32x512.Idx) :
    k0_pay7 v j = nat2 v (32 * (j 0).val + (j 1).val) (j 2).val := by
  unfold k0_pay7
  dsimp only
  rw [shapeCast_self]
  have h0 : (j 0).val < 32 := (j 0).isLt
  have h1 : (j 1).val < 32 := (j 1).isLt
  have h2 : (j 2).val < 512 := (j 2).isLt
  rw [shapeCast_apply v _ j (ix2 ⟨32 * (j 0).val + (j 1).val, by omega⟩ ⟨(j 2).val, h2⟩)
    (by rw [Shape.rowMajor_val_two, Shape.rowMajor_val_three]
        show (32 * (j 0).val + (j 1).val) * 512 + (j 2).val = ((j 0).val * 32 + (j 1).val) * 512 + (j 2).val
        omega)]
  exact (nat2_of v _ _ _ rfl rfl).symm

/-- The least bf16 word. -/
theorem bot_bf16 : (FloatOps.ofBits .bf16 0xFF80#16 : Ideal .bf16) = ⊥ := by
  show Ideal.ieee 8 7 (0xFF80#16 : BitVec 16) = ⊥
  unfold Ideal.ieee
  rw [show ((0xFF80#16 : BitVec 16).extractLsb' 7 8).toNat = 255 from by decide,
    show ((0xFF80#16 : BitVec 16).extractLsb' 0 7).toNat = 0 from by decide,
    show ((0xFF80#16 : BitVec 16).extractLsb' (8 + 7) 1 == 1#1) = true from by decide]
  simp

/-- The ratio of every block. -/
theorem pay8_0 (v : Vec Ideal S1024x512 .bf16) (j : S32x512.Idx) :
    k0_pay8 v j = ratio 0x3B124925#32 (nat2 v) (j 0).val (j 1).val := by
  have key : k0_pay8 v j = (Finset.univ : Finset (Fin 32)).fold max (FloatOps.ofBits .bf16 0xFF80#16 : Ideal .bf16)
      (absf (k0_pay7 v) ∘ reduces_S32x32x512_S32x512.lift j) * Ideal.ofBits .f32 0x3B124925#32 := by
    unfold k0_pay8
    dsimp only
    rw [ValueIdx.mulf_apply, ValueIdx.extf_apply, ValueIdx.broadcast_apply]
    exact congrArg (· * Ideal.ofBits .f32 0x3B124925#32) (Ideal.multiReduction_maximumf_single (absf (k0_pay7 v)) _ _ _ _ j)
  rw [key, bot_bf16]
  unfold ratio amax
  refine congrArg (fun f : Fin 32 → EReal => (Finset.univ : Finset (Fin 32)).fold max ⊥ f * Ideal.ofBits .f32 0x3B124925#32)
    (funext fun i => ?_)
  have hx := pay7_0 v (reduces_S32x32x512_S32x512.lift j i)
  exact congrArg (fun x : EReal => max x (-x)) hx

/-- A value per group and column, repeated along the group's 32 tokens. -/
theorem spread0 (w : S32x512.Idx → EReal) (j : S32x32x512.Idx) (h0 : (j 0).val < 32) (h2 : (j 2).val < 512) :
    broadcastTo S32x32x512 (shapeCast S32x1x512 w shapeCasts_S32x512_S32x1x512) broadcasts_S32x1x512_S32x32x512 j
      = w (ix2 ⟨(j 0).val, h0⟩ ⟨(j 2).val, h2⟩) := by
  rw [broadcastTo_apply _ _ j (ix3 ⟨(j 0).val, h0⟩ ⟨0, by omega⟩ ⟨(j 2).val, h2⟩ : S32x1x512.Idx)
      (by intro a; match a with | ⟨0, _⟩ => rfl | ⟨1, _⟩ => rfl | ⟨2, _⟩ => rfl),
    shapeCast_apply _ _ _ (ix2 ⟨(j 0).val, h0⟩ ⟨(j 2).val, h2⟩ : S32x512.Idx)
      (by rw [Shape.rowMajor_val_two, Shape.rowMajor_val_three]
          show (j 0).val * 512 + (j 2).val = ((j 0).val * 1 + 0) * 512 + (j 2).val
          omega)]

/-- The code of a value, from the field. -/
theorem pay4_field0 (x : FVec Ideal S32x32x512 .bf16) (y : FVec Ideal S32x512 .f32) (f k : IVec S32x512 32) (j : S32x32x512.Idx)
    (h0 : (j 0).val < 32) (h2 : (j 2).val < 512) :
    k0_pay4 x y f k j = min (Ideal.ofBits .f32 0x43E00000#32) (max (Ideal.ofBits .f32 0xC3E00000#32)
      (x j * Ideal.ofBits .f32 (if k0_pay1 y f k (ix2 ⟨(j 0).val, h0⟩ ⟨(j 2).val, h2⟩) = 0#32 then 1065353216#32
        else 2122317824#32 - k0_pay1 y f k (ix2 ⟨(j 0).val, h0⟩ ⟨(j 2).val, h2⟩)))) := by
  unfold k0_pay4 k0_pay2
  generalize k0_pay1 y f k = e
  dsimp only
  rw [ValueIdx.truncf_apply, ValueIdx.minimumf_apply, ValueIdx.maximumf_apply, ValueIdx.mulf_apply, spread0 _ _ h0 h2,
    ← zero_choice0]
  rfl

/-- The code of every value, in groups of 32. -/
theorem pay4_0 (v : Vec Ideal S1024x512 .bf16) (j : S32x32x512.Idx) :
    k0_pay4 (k0_pay7 v) (k0_pay8 v) (k0_pay9 v) k0_pay10 j
      = codes kinv 0x3B124925#32 0xC3E00000#32 0x43E00000#32 (nat2 v) (32 * (j 0).val + (j 1).val) (j 2).val := by
  have h1 : (j 1).val < 32 := (j 1).isLt
  have h0 : (j 0).val < 32 := (j 0).isLt
  have h2 : (j 2).val < 512 := (j 2).isLt
  rw [pay4_field0 _ _ _ _ j h0 h2, pay1_0, pay8_0, pay7_0]
  unfold codes kinv
  rw [show (32 * (j 0).val + (j 1).val) / 32 = (j 0).val by omega]

/-- A group of 32 tokens and a token of it, back at the block's own rows. -/
theorem ungroup0 (w : S32x32x512.Idx → EReal) (h : S32x32x512.ShapeCasts S1024x512) (j : S1024x512.Idx) :
    shapeCast S1024x512 w h j = w (ix3 ⟨(j 0).val / 32, by have : (j 0).val < 1024 := (j 0).isLt; omega⟩ ⟨(j 0).val % 32, by omega⟩ ⟨(j 1).val, (j 1).isLt⟩) :=
  shapeCast_apply w h j _ (by
    rw [Shape.rowMajor_val_two, Shape.rowMajor_val_three]
    show ((j 0).val / 32 * 32 + (j 0).val % 32) * 512 + (j 1).val = (j 0).val * 512 + (j 1).val
    omega)

/-- The stored codes. -/
theorem pay5_0 (v : Vec Ideal S1024x512 .bf16) (j : S1024x512.Idx) :
    k0_pay5 (k0_pay7 v) (k0_pay8 v) (k0_pay9 v) k0_pay10 j
      = codes kinv 0x3B124925#32 0xC3E00000#32 0x43E00000#32 (nat2 v) (j 0).val (j 1).val := by
  unfold k0_pay5
  dsimp only
  rw [ungroup0, pay4_0]
  show codes _ _ _ _ _ (32 * ((j 0).val / 32) + (j 0).val % 32) _ = _
  rw [Nat.div_add_mod]

/-- The dequantised values, in groups of 32. -/
theorem deq3_0 (v : Vec Ideal S1024x512 .bf16) (j : S32x32x512.Idx) :
    mulf (extf .bf16 (k0_pay4 (k0_pay7 v) (k0_pay8 v) (k0_pay9 v) k0_pay10) bitsLt_fp8e4m3_bf16)
      (broadcastTo S32x32x512 (shapeCast S32x1x512 (truncf .bf16 (k0_pay3 (k0_pay8 v) (k0_pay9 v) k0_pay10) bitsLt_bf16_f32)
        shapeCasts_S32x512_S32x1x512) broadcasts_S32x1x512_S32x32x512) j
      = deq kscale kinv 0x3B124925#32 0xC3E00000#32 0x43E00000#32 (nat2 v) (32 * (j 0).val + (j 1).val) (j 2).val := by
  have h1 : (j 1).val < 32 := (j 1).isLt
  have h0 : (j 0).val < 32 := (j 0).isLt
  have h2 : (j 2).val < 512 := (j 2).isLt
  rw [ValueIdx.mulf_apply, ValueIdx.extf_apply, spread0 _ _ h0 h2, ValueIdx.truncf_apply]
  rw [pay4_0, pay3_0, pay8_0]
  unfold deq
  rw [show (32 * (j 0).val + (j 1).val) / 32 = (j 0).val by omega]

/-- The stored dequantised values: the block's transpose. -/
theorem pay6_0 (v : Vec Ideal S1024x512 .bf16) (j : S512x1024.Idx) :
    k0_pay6 (k0_pay7 v) (k0_pay8 v) (k0_pay9 v) k0_pay10 j
      = deq kscale kinv 0x3B124925#32 0xC3E00000#32 0x43E00000#32 (nat2 v) (j 1).val (j 0).val := by
  unfold k0_pay6
  dsimp only
  rw [transpose_apply _ _ _ j (ix2 ⟨(j 1).val, (j 1).isLt⟩ ⟨(j 0).val, (j 0).isLt⟩ : S1024x512.Idx)
    (by intro b; match b with | ⟨0, _⟩ => rfl | ⟨1, _⟩ => rfl)]
  rw [ungroup0]
  refine (deq3_0 v _).trans ?_
  show deq _ _ _ _ _ _ (32 * ((j 1).val / 32) + (j 1).val % 32) _ = _
  rw [Nat.div_add_mod]

end Cert.KernelIdeal.Gen

end
-- ==== Proof.ArrayX.lean ====
/-
  What the first quantiser leaves in its three result arrays, as functions of the array it reads.
-/
module

public import proofs.«01_k».proof.Proof.BlockX
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem Cert.Spec Cert.Scale
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's stores, each a payload over the block read. -/
theorem out0_1_eq (v : Vec Ideal S1024x512 .bf16) :
    out0_1 v = k0_pay5 (k0_pay7 v) (k0_pay8 v) (k0_pay9 v) k0_pay10 := by
  unfold_out out0_1
  rw [View.canon_unit_zero hz0, View.ld_unit_zero (S := S1024x512) hz0]

theorem out0_2_eq (v : Vec Ideal S1024x512 .bf16) : out0_2 v = k0_pay3 (k0_pay8 v) (k0_pay9 v) k0_pay10 := by
  unfold_out out0_2
  rw [View.canon_unit_zero hz0, View.ld_unit_zero (S := S1024x512) hz0]

theorem out0_3_eq (v : Vec Ideal S1024x512 .bf16) :
    out0_3 v = k0_pay6 (k0_pay7 v) (k0_pay8 v) (k0_pay9 v) k0_pay10 := by
  unfold_out out0_3
  rw [View.canon_unit_zero hz0, View.ld_unit_zero (S := S1024x512) hz0]

/-- The grid coordinates of a point, as the index maps' words read them. -/
theorem co0_0 (t : Fin cfg0.N) : (BitVec.ofNat 32 (grid0.coords t 0).val).toNat = t.val / 14 := by
  have ht : t.val < 224 := Nat.lt_of_lt_of_eq t.isLt N_0
  have e : (grid0.coords t 0).val = t.val / 14 % 16 := Pipeline.Grid.coords_val t 0 (by decide) rfl
  rw [e, BitVec.toNat_ofNat]; omega
theorem co0_1 (t : Fin cfg0.N) : (BitVec.ofNat 32 (grid0.coords t 1).val).toNat = t.val % 14 := by
  have e : (grid0.coords t 1).val = t.val / 1 % 14 := Pipeline.Grid.coords_val t 1 (by decide) rfl
  rw [e, BitVec.toNat_ofNat]; omega

/-- The block read at a point is a 1024 × 512 tile of the array. -/
theorem iblk0_nat (c : Dev nD) (t : Fin cfg0.N) (r n : ℕ) (hr : r < 1024) (hn : n < 512) :
    nat2 (iblk0 V c 0 t : Vec Ideal S1024x512 .bf16) r n
      = nat2 (V c main_v0 : S16384x7168.Idx → EReal) (1024 * (t.val / 14) + r) (512 * (t.val % 14) + n) := by
  have ht : t.val < 224 := Nat.lt_of_lt_of_eq t.isLt N_0
  rw [nat2_of _ (ValueIdx.ix2 ⟨r, hr⟩ ⟨n, hn⟩) r n rfl rfl]
  rw [nat2_of (V c main_v0 : S16384x7168.Idx → EReal)
    (ValueIdx.ix2 ⟨1024 * (t.val / 14) + r, by omega⟩ ⟨512 * (t.val % 14) + n, by omega⟩) _ _ rfl rfl]
  unfold iblk0
  rw [View.read_apply]
  show V c main_v0 _ = V c main_v0 _
  congr 1
  funext a
  apply Fin.ext
  match a with
  | ⟨0, _⟩ => show (BitVec.ofNat 32 (grid0.coords t 0).val).toNat * 1024 + 1 * r = 1024 * (t.val / 14) + r
              rw [co0_0]; omega
  | ⟨1, _⟩ => show (BitVec.ofNat 32 (grid0.coords t 1).val).toNat * 512 + 1 * n = 512 * (t.val % 14) + n
              rw [co0_1]; omega

/-! ### The codes -/

/-- The codes' array. -/
def codesX (X : S16384x7168.Idx → EReal) : S16384x7168.Idx → EReal := fun j =>
  codes kinv 0x3B124925#32 0xC3E00000#32 0x43E00000#32 (nat2 X) (j 0).val (j 1).val

/-- Where a point's block sits. -/
theorem emb0_1 (t : Fin cfg0.N) (j : S1024x512.Idx) :
    ((win0_1.blk t).view.emb j 0).val = 1024 * (t.val / 14) + (j 0).val
      ∧ ((win0_1.blk t).view.emb j 1).val = 512 * (t.val % 14) + (j 1).val := by
  constructor
  · show (BitVec.ofNat 32 (grid0.coords t 0).val).toNat * 1024 + 1 * (j 0).val = _
    rw [co0_0]; omega
  · show (BitVec.ofNat 32 (grid0.coords t 1).val).toNat * 512 + 1 * (j 1).val = _
    rw [co0_1]; omega

/-- What a point stores is the array's value at the block's place. -/
theorem tile0_1 (c : Dev nD) (t : Fin cfg0.N) (j : S1024x512.Idx) :
    k0_pay5 (k0_pay7 (iblk0 V c 0 t)) (k0_pay8 (iblk0 V c 0 t)) (k0_pay9 (iblk0 V c 0 t)) k0_pay10 j
      = codesX (V c main_v0) ((win0_1.blk t).view.emb j) := by
  have h0 : (j 0).val < 1024 := (j 0).isLt
  have h1 : (j 1).val < 512 := (j 1).isLt
  obtain ⟨e0, e1⟩ := emb0_1 t j
  rw [pay5_0]
  unfold codesX
  rw [e0, e1]
  refine codes_shift _ _ _ _ _ _ _ _ _ _ (by omega) fun i hi => ?_
  rw [iblk0_nat V c t _ _ (by omega) h1]
  exact congrArg₂ (nat2 _) (by omega) (by omega)

/-- A block that agrees with an array at its place is what the point writes of that array. -/
theorem cut0_1 (t : Fin cfg0.N) (B : Vec Ideal S1024x512 .fp8e4m3) (A : S16384x7168.Idx → EReal)
    (h : ∀ j, B j = A ((win0_1.blk t).view.emb j)) :
    (cfg0.win 1).cut (grid0.coords t) B = (win0_1.blk t).view.read (Elt Ideal) A := funext h

/-- What a point writes back is its block of the array. -/
theorem flushed0_1 (c : Dev nD) (t : Fin cfg0.N) :
    (dat0 V c).flushed 1 t = (win0_1.blk t).view.read (Elt Ideal) (codesX (V c main_v0)) := by
  show (cfg0.win 1).cut (grid0.coords t) ((dat0 V c).after 1 t) = _
  rw [after0_1, out0_1_eq]
  exact cut0_1 t _ _ (tile0_1 V c t)

/-- Every element of the array is in some point's block. -/
theorem covers0_1 (i : S16384x7168.Idx) :
    ∃ t : Fin cfg0.N, (cfg0.win 1).flush t = true ∧ i ∈ (win0_1.blk t).view.set := by
  have h0 : (i 0).val < 16384 := (i 0).isLt
  have h1 : (i 1).val < 7168 := (i 1).isLt
  obtain ⟨t, ht⟩ : ∃ t : Fin cfg0.N, t.val = (i 0).val / 1024 * 14 + (i 1).val / 512 :=
    ⟨⟨(i 0).val / 1024 * 14 + (i 1).val / 512, by rw [show cfg0.N = 224 from N_0]; omega⟩, rfl⟩
  refine ⟨t, flush0_1 t, ?_⟩
  show i ∈ ((View.whole main_v1_0).slice (win0_1.rect t)).set
  rw [View.set_slice_whole, Rect.mem_set_unit]
  intro a
  match a with
  | ⟨0, _⟩ => show (BitVec.ofNat 32 (grid0.coords t 0).val).toNat * 1024 ≤ (i 0).val ∧ (i 0).val < (BitVec.ofNat 32 (grid0.coords t 0).val).toNat * 1024 + 1024
              rw [co0_0]; omega
  | ⟨1, _⟩ => show (BitVec.ofNat 32 (grid0.coords t 1).val).toNat * 512 ≤ (i 1).val ∧ (i 1).val < (BitVec.ofNat 32 (grid0.coords t 1).val).toNat * 512 + 512
              rw [co0_1]; omega

/-- THE ARRAY after the region. -/
theorem array0_1 (c : Dev nD) : (dat0 V c).arrAt 1 cfg0.N = codesX (V c main_v0) :=
  (dat0 V c).arrAt_eq_of_cover 1 (codesX (V c main_v0)) (fun t _ => flushed0_1 V c t) covers0_1

/-! ### The scales -/

/-- The scales' array. -/
def scalesX (X : S16384x7168.Idx → EReal) : S512x7168.Idx → EReal := fun j =>
  kscale (ratio 0x3B124925#32 (nat2 X) (j 0).val (j 1).val)

/-- Where a point's block sits. -/
theorem emb0_2 (t : Fin cfg0.N) (j : S32x512.Idx) :
    ((win0_2.blk t).view.emb j 0).val = 32 * (t.val / 14) + (j 0).val
      ∧ ((win0_2.blk t).view.emb j 1).val = 512 * (t.val % 14) + (j 1).val := by
  constructor
  · show (BitVec.ofNat 32 (grid0.coords t 0).val).toNat * 32 + 1 * (j 0).val = _
    rw [co0_0]; omega
  · show (BitVec.ofNat 32 (grid0.coords t 1).val).toNat * 512 + 1 * (j 1).val = _
    rw [co0_1]; omega

/-- What a point stores is the array's value at the block's place. -/
theorem tile0_2 (c : Dev nD) (t : Fin cfg0.N) (j : S32x512.Idx) :
    k0_pay3 (k0_pay8 (iblk0 V c 0 t)) (k0_pay9 (iblk0 V c 0 t)) k0_pay10 j
      = scalesX (V c main_v0) ((win0_2.blk t).view.emb j) := by
  have h0 : (j 0).val < 32 := (j 0).isLt
  have h1 : (j 1).val < 512 := (j 1).isLt
  obtain ⟨e0, e1⟩ := emb0_2 t j
  rw [pay3_0, pay8_0]
  unfold scalesX
  rw [e0, e1]
  refine congrArg kscale (ratio_shift _ _ _ _ _ _ _ fun i hi => ?_)
  rw [iblk0_nat V c t _ _ (by omega) h1]
  exact congrArg₂ (nat2 _) (by omega) (by omega)

/-- A block that agrees with an array at its place is what the point writes of that array. -/
theorem cut0_2 (t : Fin cfg0.N) (B : Vec Ideal S32x512 .f32) (A : S512x7168.Idx → EReal)
    (h : ∀ j, B j = A ((win0_2.blk t).view.emb j)) :
    (cfg0.win 2).cut (grid0.coords t) B = (win0_2.blk t).view.read (Elt Ideal) A := funext h

/-- What a point writes back is its block of the array. -/
theorem flushed0_2 (c : Dev nD) (t : Fin cfg0.N) :
    (dat0 V c).flushed 2 t = (win0_2.blk t).view.read (Elt Ideal) (scalesX (V c main_v0)) := by
  show (cfg0.win 2).cut (grid0.coords t) ((dat0 V c).after 2 t) = _
  rw [after0_2, out0_2_eq]
  exact cut0_2 t _ _ (tile0_2 V c t)

/-- Every element of the array is in some point's block. -/
theorem covers0_2 (i : S512x7168.Idx) :
    ∃ t : Fin cfg0.N, (cfg0.win 2).flush t = true ∧ i ∈ (win0_2.blk t).view.set := by
  have h0 : (i 0).val < 512 := (i 0).isLt
  have h1 : (i 1).val < 7168 := (i 1).isLt
  obtain ⟨t, ht⟩ : ∃ t : Fin cfg0.N, t.val = (i 0).val / 32 * 14 + (i 1).val / 512 :=
    ⟨⟨(i 0).val / 32 * 14 + (i 1).val / 512, by rw [show cfg0.N = 224 from N_0]; omega⟩, rfl⟩
  refine ⟨t, flush0_2 t, ?_⟩
  show i ∈ ((View.whole main_v1_1).slice (win0_2.rect t)).set
  rw [View.set_slice_whole, Rect.mem_set_unit]
  intro a
  match a with
  | ⟨0, _⟩ => show (BitVec.ofNat 32 (grid0.coords t 0).val).toNat * 32 ≤ (i 0).val ∧ (i 0).val < (BitVec.ofNat 32 (grid0.coords t 0).val).toNat * 32 + 32
              rw [co0_0]; omega
  | ⟨1, _⟩ => show (BitVec.ofNat 32 (grid0.coords t 1).val).toNat * 512 ≤ (i 1).val ∧ (i 1).val < (BitVec.ofNat 32 (grid0.coords t 1).val).toNat * 512 + 512
              rw [co0_1]; omega

/-- THE ARRAY after the region. -/
theorem array0_2 (c : Dev nD) : (dat0 V c).arrAt 2 cfg0.N = scalesX (V c main_v0) :=
  (dat0 V c).arrAt_eq_of_cover 2 (scalesX (V c main_v0)) (fun t _ => flushed0_2 V c t) covers0_2

/-! ### The dequantised values, transposed -/

/-- The dequantised values' array. -/
def deqX (X : S16384x7168.Idx → EReal) : S7168x16384.Idx → EReal := fun j =>
  deq kscale kinv 0x3B124925#32 0xC3E00000#32 0x43E00000#32 (nat2 X) (j 1).val (j 0).val

/-- Where a point's block sits. -/
theorem emb0_3 (t : Fin cfg0.N) (j : S512x1024.Idx) :
    ((win0_3.blk t).view.emb j 0).val = 512 * (t.val % 14) + (j 0).val
      ∧ ((win0_3.blk t).view.emb j 1).val = 1024 * (t.val / 14) + (j 1).val := by
  constructor
  · show (BitVec.ofNat 32 (grid0.coords t 1).val).toNat * 512 + 1 * (j 0).val = _
    rw [co0_1]; omega
  · show (BitVec.ofNat 32 (grid0.coords t 0).val).toNat * 1024 + 1 * (j 1).val = _
    rw [co0_0]; omega

/-- What a point stores is the array's value at the block's place. -/
theorem tile0_3 (c : Dev nD) (t : Fin cfg0.N) (j : S512x1024.Idx) :
    k0_pay6 (k0_pay7 (iblk0 V c 0 t)) (k0_pay8 (iblk0 V c 0 t)) (k0_pay9 (iblk0 V c 0 t)) k0_pay10 j
      = deqX (V c main_v0) ((win0_3.blk t).view.emb j) := by
  have h0 : (j 0).val < 512 := (j 0).isLt
  have h1 : (j 1).val < 1024 := (j 1).isLt
  obtain ⟨e0, e1⟩ := emb0_3 t j
  rw [pay6_0]
  unfold deqX
  rw [e0, e1]
  refine deq_shift _ _ _ _ _ _ _ _ _ _ _ (by omega) fun i hi => ?_
  rw [iblk0_nat V c t _ _ (by omega) h0]
  exact congrArg₂ (nat2 _) (by omega) (by omega)

/-- A block that agrees with an array at its place is what the point writes of that array. -/
theorem cut0_3 (t : Fin cfg0.N) (B : Vec Ideal S512x1024 .bf16) (A : S7168x16384.Idx → EReal)
    (h : ∀ j, B j = A ((win0_3.blk t).view.emb j)) :
    (cfg0.win 3).cut (grid0.coords t) B = (win0_3.blk t).view.read (Elt Ideal) A := funext h

/-- What a point writes back is its block of the array. -/
theorem flushed0_3 (c : Dev nD) (t : Fin cfg0.N) :
    (dat0 V c).flushed 3 t = (win0_3.blk t).view.read (Elt Ideal) (deqX (V c main_v0)) := by
  show (cfg0.win 3).cut (grid0.coords t) ((dat0 V c).after 3 t) = _
  rw [after0_3, out0_3_eq]
  exact cut0_3 t _ _ (tile0_3 V c t)

/-- Every element of the array is in some point's block. -/
theorem covers0_3 (i : S7168x16384.Idx) :
    ∃ t : Fin cfg0.N, (cfg0.win 3).flush t = true ∧ i ∈ (win0_3.blk t).view.set := by
  have h0 : (i 0).val < 7168 := (i 0).isLt
  have h1 : (i 1).val < 16384 := (i 1).isLt
  obtain ⟨t, ht⟩ : ∃ t : Fin cfg0.N, t.val = (i 1).val / 1024 * 14 + (i 0).val / 512 :=
    ⟨⟨(i 1).val / 1024 * 14 + (i 0).val / 512, by rw [show cfg0.N = 224 from N_0]; omega⟩, rfl⟩
  refine ⟨t, flush0_3 t, ?_⟩
  show i ∈ ((View.whole main_v1_2).slice (win0_3.rect t)).set
  rw [View.set_slice_whole, Rect.mem_set_unit]
  intro a
  match a with
  | ⟨0, _⟩ => show (BitVec.ofNat 32 (grid0.coords t 1).val).toNat * 512 ≤ (i 0).val ∧ (i 0).val < (BitVec.ofNat 32 (grid0.coords t 1).val).toNat * 512 + 512
              rw [co0_1]; omega
  | ⟨1, _⟩ => show (BitVec.ofNat 32 (grid0.coords t 0).val).toNat * 1024 ≤ (i 1).val ∧ (i 1).val < (BitVec.ofNat 32 (grid0.coords t 0).val).toNat * 1024 + 1024
              rw [co0_0]; omega

/-- THE ARRAY after the region. -/
theorem array0_3 (c : Dev nD) : (dat0 V c).arrAt 3 cfg0.N = deqX (V c main_v0) :=
  (dat0 V c).arrAt_eq_of_cover 3 (deqX (V c main_v0)) (fun t _ => flushed0_3 V c t) covers0_3

end Cert.KernelIdeal.Gen

end
-- ==== Proof.BlockDy.lean ====
/-
  One block of the second quantiser: what its three stores hold at an index, from the 1024 × 512 block it reads.
-/
module

public import proofs.«01_k».proof.Proof.Spec
public import proofs.«01_k».proof.Proof.Gen.KernelIdeal.Skeleton
public import Idealize.ShloMosaic.Lib.Pipeline.Value
public import Idealize.ShloMosaic.PureOps.Ideal.Laws

@[expose] public section

set_option maxRecDepth 16384

noncomputable section

namespace Cert.KernelIdeal.Gen

open Idealize.ShloMosaic Cert.Spec Cert.Scale
open Idealize.ShloMosaic.ValueIdx (ix2 ix3)

/-- A vector step of the binary search is a scalar step at each index. -/
theorem step_vec1 (y : FVec Ideal S32x512 .f32) (f k : IVec S32x512 32) (j : S32x512.Idx) :
    select (cmpf .oge y (bitcastToFloat .f32 (addi f k))) (addi f k) f j = step (y j) (f j) (k j) := by
  show (if BitVec.ofBool (decide (Ideal.ofBits .f32 (f j + k j) ≤ y j)) = 1 then f j + k j else f j) = _
  unfold step
  by_cases h : Ideal.ofBits .f32 (f j + k j) ≤ y j
  · simp [h]
  · simp [h]

/-- The exponent field of every block. -/
theorem pay1_1 (v : Vec Ideal S1024x512 .bf16) (j : S32x512.Idx) :
    k1_pay1 (k1_pay8 v) (k1_pay9 v) k1_pay10 j = field (k1_pay8 v j) := by
  unfold k1_pay1 k1_pay9 k1_pay10 field
  dsimp only
  simp only [step_vec1]
  rfl

/-- A choice between two words on whether a word is zero. -/
theorem zero_choice1 (f a b : BitVec 32) : Scalar.select (Scalar.cmpi .eq f 0#32) a b = if f = 0#32 then a else b := by
  show (if BitVec.ofBool (decide (f = 0#32)) = 1 then a else b) = _
  by_cases h : f = 0#32
  · simp [h]
  · simp [h]

/-- The stored scale, from the field. -/
theorem pay3_field1 (y : FVec Ideal S32x512 .f32) (f k : IVec S32x512 32) (j : S32x512.Idx) :
    k1_pay3 y f k j = Ideal.ofBits .f32 (if k1_pay1 y f k j = 0#32 then 1065353216#32 else k1_pay1 y f k j + 8388608#32) := by
  rw [← zero_choice1]; rfl

/-- The stored scale of every block, -/
theorem pay3_1 (v : Vec Ideal S1024x512 .bf16) (j : S32x512.Idx) :
    k1_pay3 (k1_pay8 v) (k1_pay9 v) k1_pay10 j = kscale (k1_pay8 v j) := by
  rw [pay3_field1, pay1_1]; rfl

/-- The block's tokens in groups of 32. -/
theorem pay7_1 (v : Vec Ideal S1024x512 .bf16) (j : S32x32x512.Idx) :
    k1_pay7 v j = nat2 v (32 * (j 0).val + (j 1).val) (j 2).val := by
  unfold k1_pay7
  dsimp only
  rw [shapeCast_self]
  have h0 : (j 0).val < 32 := (j 0).isLt
  have h1 : (j 1).val < 32 := (j 1).isLt
  have h2 : (j 2).val < 512 := (j 2).isLt
  rw [shapeCast_apply v _ j (ix2 ⟨32 * (j 0).val + (j 1).val, by omega⟩ ⟨(j 2).val, h2⟩)
    (by rw [Shape.rowMajor_val_two, Shape.rowMajor_val_three]
        show (32 * (j 0).val + (j 1).val) * 512 + (j 2).val = ((j 0).val * 32 + (j 1).val) * 512 + (j 2).val
        omega)]
  exact (nat2_of v _ _ _ rfl rfl).symm

/-- The least bf16 word. -/
theorem bot_bf16_1 : (FloatOps.ofBits .bf16 0xFF80#16 : Ideal .bf16) = ⊥ := by
  show Ideal.ieee 8 7 (0xFF80#16 : BitVec 16) = ⊥
  unfold Ideal.ieee
  rw [show ((0xFF80#16 : BitVec 16).extractLsb' 7 8).toNat = 255 from by decide,
    show ((0xFF80#16 : BitVec 16).extractLsb' 0 7).toNat = 0 from by decide,
    show ((0xFF80#16 : BitVec 16).extractLsb' (8 + 7) 1 == 1#1) = true from by decide]
  simp

/-- The ratio of every block. -/
theorem pay8_1 (v : Vec Ideal S1024x512 .bf16) (j : S32x512.Idx) :
    k1_pay8 v j = ratio 0x37924925#32 (nat2 v) (j 0).val (j 1).val := by
  have key : k1_pay8 v j = (Finset.univ : Finset (Fin 32)).fold max (FloatOps.ofBits .bf16 0xFF80#16 : Ideal .bf16)
      (absf (k1_pay7 v) ∘ reduces_S32x32x512_S32x512.lift j) * Ideal.ofBits .f32 0x37924925#32 := by
    unfold k1_pay8
    dsimp only
    rw [ValueIdx.mulf_apply, ValueIdx.extf_apply, ValueIdx.broadcast_apply]
    exact congrArg (· * Ideal.ofBits .f32 0x37924925#32) (Ideal.multiReduction_maximumf_single (absf (k1_pay7 v)) _ _ _ _ j)
  rw [key, bot_bf16_1]
  unfold ratio amax
  refine congrArg (fun f : Fin 32 → EReal => (Finset.univ : Finset (Fin 32)).fold max ⊥ f * Ideal.ofBits .f32 0x37924925#32)
    (funext fun i => ?_)
  have hx := pay7_1 v (reduces_S32x32x512_S32x512.lift j i)
  exact congrArg (fun x : EReal => max x (-x)) hx

/-- A value per group and column, repeated along the group's 32 tokens. -/
theorem spread1 (w : S32x512.Idx → EReal) (j : S32x32x512.Idx) (h0 : (j 0).val < 32) (h2 : (j 2).val < 512) :
    broadcastTo S32x32x512 (shapeCast S32x1x512 w shapeCasts_S32x512_S32x1x512) broadcasts_S32x1x512_S32x32x512 j
      = w (ix2 ⟨(j 0).val, h0⟩ ⟨(j 2).val, h2⟩) := by
  rw [broadcastTo_apply _ _ j (ix3 ⟨(j 0).val, h0⟩ ⟨0, by omega⟩ ⟨(j 2).val, h2⟩ : S32x1x512.Idx)
      (by intro a; match a with | ⟨0, _⟩ => rfl | ⟨1, _⟩ => rfl | ⟨2, _⟩ => rfl),
    shapeCast_apply _ _ _ (ix2 ⟨(j 0).val, h0⟩ ⟨(j 2).val, h2⟩ : S32x512.Idx)
      (by rw [Shape.rowMajor_val_two, Shape.rowMajor_val_three]
          show (j 0).val * 512 + (j 2).val = ((j 0).val * 1 + 0) * 512 + (j 2).val
          omega)]

/-- The code of a value, from the field. -/
theorem pay4_field1 (x : FVec Ideal S32x32x512 .bf16) (y : FVec Ideal S32x512 .f32) (f k : IVec S32x512 32) (j : S32x32x512.Idx)
    (h0 : (j 0).val < 32) (h2 : (j 2).val < 512) :
    k1_pay4 x y f k j = min (Ideal.ofBits .f32 0x47600000#32) (max (Ideal.ofBits .f32 0xC7600000#32)
      (x j * Ideal.ofBits .f32 (if k1_pay1 y f k (ix2 ⟨(j 0).val, h0⟩ ⟨(j 2).val, h2⟩) = 0#32 then 1065353216#32
        else 2122317824#32 - k1_pay1 y f k (ix2 ⟨(j 0).val, h0⟩ ⟨(j 2).val, h2⟩)))) := by
  unfold k1_pay4 k1_pay2
  generalize k1_pay1 y f k = e
  dsimp only
  rw [ValueIdx.truncf_apply, ValueIdx.minimumf_apply, ValueIdx.maximumf_apply, ValueIdx.mulf_apply, spread1 _ _ h0 h2,
    ← zero_choice1]
  rfl

/-- The code of every value, in groups of 32. -/
theorem pay4_1 (v : Vec Ideal S1024x512 .bf16) (j : S32x32x512.Idx) :
    k1_pay4 (k1_pay7 v) (k1_pay8 v) (k1_pay9 v) k1_pay10 j
      = codes kinv 0x37924925#32 0xC7600000#32 0x47600000#32 (nat2 v) (32 * (j 0).val + (j 1).val) (j 2).val := by
  have h1 : (j 1).val < 32 := (j 1).isLt
  have h0 : (j 0).val < 32 := (j 0).isLt
  have h2 : (j 2).val < 512 := (j 2).isLt
  rw [pay4_field1 _ _ _ _ j h0 h2, pay1_1, pay8_1, pay7_1]
  unfold codes kinv
  rw [show (32 * (j 0).val + (j 1).val) / 32 = (j 0).val by omega]

/-- A group of 32 tokens and a token of it, back at the block's own rows. -/
theorem ungroup1 (w : S32x32x512.Idx → EReal) (h : S32x32x512.ShapeCasts S1024x512) (j : S1024x512.Idx) :
    shapeCast S1024x512 w h j = w (ix3 ⟨(j 0).val / 32, by have : (j 0).val < 1024 := (j 0).isLt; omega⟩ ⟨(j 0).val % 32, by omega⟩ ⟨(j 1).val, (j 1).isLt⟩) :=
  shapeCast_apply w h j _ (by
    rw [Shape.rowMajor_val_two, Shape.rowMajor_val_three]
    show ((j 0).val / 32 * 32 + (j 0).val % 32) * 512 + (j 1).val = (j 0).val * 512 + (j 1).val
    omega)

/-- The stored codes. -/
theorem pay5_1 (v : Vec Ideal S1024x512 .bf16) (j : S1024x512.Idx) :
    k1_pay5 (k1_pay7 v) (k1_pay8 v) (k1_pay9 v) k1_pay10 j
      = codes kinv 0x37924925#32 0xC7600000#32 0x47600000#32 (nat2 v) (j 0).val (j 1).val := by
  unfold k1_pay5
  dsimp only
  rw [ungroup1, pay4_1]
  show codes _ _ _ _ _ (32 * ((j 0).val / 32) + (j 0).val % 32) _ = _
  rw [Nat.div_add_mod]

/-- The dequantised values, in groups of 32. -/
theorem deq3_1 (v : Vec Ideal S1024x512 .bf16) (j : S32x32x512.Idx) :
    mulf (extf .bf16 (k1_pay4 (k1_pay7 v) (k1_pay8 v) (k1_pay9 v) k1_pay10) bitsLt_fp8e5m2_bf16)
      (broadcastTo S32x32x512 (shapeCast S32x1x512 (truncf .bf16 (k1_pay3 (k1_pay8 v) (k1_pay9 v) k1_pay10) bitsLt_bf16_f32)
        shapeCasts_S32x512_S32x1x512) broadcasts_S32x1x512_S32x32x512) j
      = deq kscale kinv 0x37924925#32 0xC7600000#32 0x47600000#32 (nat2 v) (32 * (j 0).val + (j 1).val) (j 2).val := by
  have h1 : (j 1).val < 32 := (j 1).isLt
  have h0 : (j 0).val < 32 := (j 0).isLt
  have h2 : (j 2).val < 512 := (j 2).isLt
  rw [ValueIdx.mulf_apply, ValueIdx.extf_apply, spread1 _ _ h0 h2, ValueIdx.truncf_apply]
  rw [pay4_1, pay3_1, pay8_1]
  unfold deq
  rw [show (32 * (j 0).val + (j 1).val) / 32 = (j 0).val by omega]

/-- The stored dequantised values. -/
theorem pay6_1 (v : Vec Ideal S1024x512 .bf16) (j : S1024x512.Idx) :
    k1_pay6 (k1_pay7 v) (k1_pay8 v) (k1_pay9 v) k1_pay10 j
      = deq kscale kinv 0x37924925#32 0xC7600000#32 0x47600000#32 (nat2 v) (j 0).val (j 1).val := by
  unfold k1_pay6
  dsimp only
  rw [ungroup1]
  refine (deq3_1 v _).trans ?_
  show deq _ _ _ _ _ _ (32 * ((j 0).val / 32) + (j 0).val % 32) _ = _
  rw [Nat.div_add_mod]

end Cert.KernelIdeal.Gen

end
-- ==== Proof.ArrayDy.lean ====
/-
  What the second quantiser leaves in its three result arrays, as functions of the array it reads.
-/
module

public import proofs.«01_k».proof.Proof.BlockDy
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem Cert.Spec Cert.Scale
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's stores, each a payload over the block read. -/
theorem out1_1_eq (v : Vec Ideal S1024x512 .bf16) :
    out1_1 v = k1_pay5 (k1_pay7 v) (k1_pay8 v) (k1_pay9 v) k1_pay10 := by
  unfold_out out1_1
  rw [View.canon_unit_zero hz1, View.ld_unit_zero (S := S1024x512) hz1]

theorem out1_2_eq (v : Vec Ideal S1024x512 .bf16) : out1_2 v = k1_pay3 (k1_pay8 v) (k1_pay9 v) k1_pay10 := by
  unfold_out out1_2
  rw [View.canon_unit_zero hz1, View.ld_unit_zero (S := S1024x512) hz1]

theorem out1_3_eq (v : Vec Ideal S1024x512 .bf16) :
    out1_3 v = k1_pay6 (k1_pay7 v) (k1_pay8 v) (k1_pay9 v) k1_pay10 := by
  unfold_out out1_3
  rw [View.canon_unit_zero hz1, View.ld_unit_zero (S := S1024x512) hz1]

/-- The grid coordinates of a point, as the index maps' words read them. -/
theorem co1_0 (t : Fin cfg1.N) : (BitVec.ofNat 32 (grid1.coords t 0).val).toNat = t.val / 20 := by
  have ht : t.val < 320 := Nat.lt_of_lt_of_eq t.isLt N_1
  have e : (grid1.coords t 0).val = t.val / 20 % 16 := Pipeline.Grid.coords_val t 0 (by decide) rfl
  rw [e, BitVec.toNat_ofNat]; omega
theorem co1_1 (t : Fin cfg1.N) : (BitVec.ofNat 32 (grid1.coords t 1).val).toNat = t.val % 20 := by
  have e : (grid1.coords t 1).val = t.val / 1 % 20 := Pipeline.Grid.coords_val t 1 (by decide) rfl
  rw [e, BitVec.toNat_ofNat]; omega

/-- The block read at a point is a 1024 × 512 tile of the array. -/
theorem iblk1_nat (c : Dev nD) (t : Fin cfg1.N) (r n : ℕ) (hr : r < 1024) (hn : n < 512) :
    nat2 (iblk1 V c 0 t : Vec Ideal S1024x512 .bf16) r n
      = nat2 (V c main_v2 : S16384x10240.Idx → EReal) (1024 * (t.val / 20) + r) (512 * (t.val % 20) + n) := by
  have ht : t.val < 320 := Nat.lt_of_lt_of_eq t.isLt N_1
  rw [nat2_of _ (ValueIdx.ix2 ⟨r, hr⟩ ⟨n, hn⟩) r n rfl rfl]
  rw [nat2_of (V c main_v2 : S16384x10240.Idx → EReal)
    (ValueIdx.ix2 ⟨1024 * (t.val / 20) + r, by omega⟩ ⟨512 * (t.val % 20) + n, by omega⟩) _ _ rfl rfl]
  unfold iblk1
  rw [View.read_apply]
  show V c main_v2 _ = V c main_v2 _
  congr 1
  funext a
  apply Fin.ext
  match a with
  | ⟨0, _⟩ => show (BitVec.ofNat 32 (grid1.coords t 0).val).toNat * 1024 + 1 * r = 1024 * (t.val / 20) + r
              rw [co1_0]; omega
  | ⟨1, _⟩ => show (BitVec.ofNat 32 (grid1.coords t 1).val).toNat * 512 + 1 * n = 512 * (t.val % 20) + n
              rw [co1_1]; omega

/-! ### The codes -/

/-- The codes' array. -/
def codesDy (X : S16384x10240.Idx → EReal) : S16384x10240.Idx → EReal := fun j =>
  codes kinv 0x37924925#32 0xC7600000#32 0x47600000#32 (nat2 X) (j 0).val (j 1).val

/-- Where a point's block sits. -/
theorem emb1_1 (t : Fin cfg1.N) (j : S1024x512.Idx) :
    ((win1_1.blk t).view.emb j 0).val = 1024 * (t.val / 20) + (j 0).val
      ∧ ((win1_1.blk t).view.emb j 1).val = 512 * (t.val % 20) + (j 1).val := by
  constructor
  · show (BitVec.ofNat 32 (grid1.coords t 0).val).toNat * 1024 + 1 * (j 0).val = _
    rw [co1_0]; omega
  · show (BitVec.ofNat 32 (grid1.coords t 1).val).toNat * 512 + 1 * (j 1).val = _
    rw [co1_1]; omega

/-- What a point stores is the array's value at the block's place. -/
theorem tile1_1 (c : Dev nD) (t : Fin cfg1.N) (j : S1024x512.Idx) :
    k1_pay5 (k1_pay7 (iblk1 V c 0 t)) (k1_pay8 (iblk1 V c 0 t)) (k1_pay9 (iblk1 V c 0 t)) k1_pay10 j
      = codesDy (V c main_v2) ((win1_1.blk t).view.emb j) := by
  have h0 : (j 0).val < 1024 := (j 0).isLt
  have h1 : (j 1).val < 512 := (j 1).isLt
  obtain ⟨e0, e1⟩ := emb1_1 t j
  rw [pay5_1]
  unfold codesDy
  rw [e0, e1]
  refine codes_shift _ _ _ _ _ _ _ _ _ _ (by omega) fun i hi => ?_
  rw [iblk1_nat V c t _ _ (by omega) h1]
  exact congrArg₂ (nat2 _) (by omega) (by omega)

/-- A block that agrees with an array at its place is what the point writes of that array. -/
theorem cut1_1 (t : Fin cfg1.N) (B : Vec Ideal S1024x512 .fp8e5m2) (A : S16384x10240.Idx → EReal)
    (h : ∀ j, B j = A ((win1_1.blk t).view.emb j)) :
    (cfg1.win 1).cut (grid1.coords t) B = (win1_1.blk t).view.read (Elt Ideal) A := funext h

/-- What a point writes back is its block of the array. -/
theorem flushed1_1 (c : Dev nD) (t : Fin cfg1.N) :
    (dat1 V c).flushed 1 t = (win1_1.blk t).view.read (Elt Ideal) (codesDy (V c main_v2)) := by
  show (cfg1.win 1).cut (grid1.coords t) ((dat1 V c).after 1 t) = _
  rw [after1_1, out1_1_eq]
  exact cut1_1 t _ _ (tile1_1 V c t)

/-- Every element of the array is in some point's block. -/
theorem covers1_1 (i : S16384x10240.Idx) :
    ∃ t : Fin cfg1.N, (cfg1.win 1).flush t = true ∧ i ∈ (win1_1.blk t).view.set := by
  have h0 : (i 0).val < 16384 := (i 0).isLt
  have h1 : (i 1).val < 10240 := (i 1).isLt
  obtain ⟨t, ht⟩ : ∃ t : Fin cfg1.N, t.val = (i 0).val / 1024 * 20 + (i 1).val / 512 :=
    ⟨⟨(i 0).val / 1024 * 20 + (i 1).val / 512, by rw [show cfg1.N = 320 from N_1]; omega⟩, rfl⟩
  refine ⟨t, flush1_1 t, ?_⟩
  show i ∈ ((View.whole main_v3_0).slice (win1_1.rect t)).set
  rw [View.set_slice_whole, Rect.mem_set_unit]
  intro a
  match a with
  | ⟨0, _⟩ => show (BitVec.ofNat 32 (grid1.coords t 0).val).toNat * 1024 ≤ (i 0).val ∧ (i 0).val < (BitVec.ofNat 32 (grid1.coords t 0).val).toNat * 1024 + 1024
              rw [co1_0]; omega
  | ⟨1, _⟩ => show (BitVec.ofNat 32 (grid1.coords t 1).val).toNat * 512 ≤ (i 1).val ∧ (i 1).val < (BitVec.ofNat 32 (grid1.coords t 1).val).toNat * 512 + 512
              rw [co1_1]; omega

/-- THE ARRAY after the region. -/
theorem array1_1 (c : Dev nD) : (dat1 V c).arrAt 1 cfg1.N = codesDy (V c main_v2) :=
  (dat1 V c).arrAt_eq_of_cover 1 (codesDy (V c main_v2)) (fun t _ => flushed1_1 V c t) covers1_1

/-! ### The scales -/

/-- The scales' array. -/
def scalesDy (X : S16384x10240.Idx → EReal) : S512x10240.Idx → EReal := fun j =>
  kscale (ratio 0x37924925#32 (nat2 X) (j 0).val (j 1).val)

/-- Where a point's block sits. -/
theorem emb1_2 (t : Fin cfg1.N) (j : S32x512.Idx) :
    ((win1_2.blk t).view.emb j 0).val = 32 * (t.val / 20) + (j 0).val
      ∧ ((win1_2.blk t).view.emb j 1).val = 512 * (t.val % 20) + (j 1).val := by
  constructor
  · show (BitVec.ofNat 32 (grid1.coords t 0).val).toNat * 32 + 1 * (j 0).val = _
    rw [co1_0]; omega
  · show (BitVec.ofNat 32 (grid1.coords t 1).val).toNat * 512 + 1 * (j 1).val = _
    rw [co1_1]; omega

/-- What a point stores is the array's value at the block's place. -/
theorem tile1_2 (c : Dev nD) (t : Fin cfg1.N) (j : S32x512.Idx) :
    k1_pay3 (k1_pay8 (iblk1 V c 0 t)) (k1_pay9 (iblk1 V c 0 t)) k1_pay10 j
      = scalesDy (V c main_v2) ((win1_2.blk t).view.emb j) := by
  have h0 : (j 0).val < 32 := (j 0).isLt
  have h1 : (j 1).val < 512 := (j 1).isLt
  obtain ⟨e0, e1⟩ := emb1_2 t j
  rw [pay3_1, pay8_1]
  unfold scalesDy
  rw [e0, e1]
  refine congrArg kscale (ratio_shift _ _ _ _ _ _ _ fun i hi => ?_)
  rw [iblk1_nat V c t _ _ (by omega) h1]
  exact congrArg₂ (nat2 _) (by omega) (by omega)

/-- A block that agrees with an array at its place is what the point writes of that array. -/
theorem cut1_2 (t : Fin cfg1.N) (B : Vec Ideal S32x512 .f32) (A : S512x10240.Idx → EReal)
    (h : ∀ j, B j = A ((win1_2.blk t).view.emb j)) :
    (cfg1.win 2).cut (grid1.coords t) B = (win1_2.blk t).view.read (Elt Ideal) A := funext h

/-- What a point writes back is its block of the array. -/
theorem flushed1_2 (c : Dev nD) (t : Fin cfg1.N) :
    (dat1 V c).flushed 2 t = (win1_2.blk t).view.read (Elt Ideal) (scalesDy (V c main_v2)) := by
  show (cfg1.win 2).cut (grid1.coords t) ((dat1 V c).after 2 t) = _
  rw [after1_2, out1_2_eq]
  exact cut1_2 t _ _ (tile1_2 V c t)

/-- Every element of the array is in some point's block. -/
theorem covers1_2 (i : S512x10240.Idx) :
    ∃ t : Fin cfg1.N, (cfg1.win 2).flush t = true ∧ i ∈ (win1_2.blk t).view.set := by
  have h0 : (i 0).val < 512 := (i 0).isLt
  have h1 : (i 1).val < 10240 := (i 1).isLt
  obtain ⟨t, ht⟩ : ∃ t : Fin cfg1.N, t.val = (i 0).val / 32 * 20 + (i 1).val / 512 :=
    ⟨⟨(i 0).val / 32 * 20 + (i 1).val / 512, by rw [show cfg1.N = 320 from N_1]; omega⟩, rfl⟩
  refine ⟨t, flush1_2 t, ?_⟩
  show i ∈ ((View.whole main_v3_1).slice (win1_2.rect t)).set
  rw [View.set_slice_whole, Rect.mem_set_unit]
  intro a
  match a with
  | ⟨0, _⟩ => show (BitVec.ofNat 32 (grid1.coords t 0).val).toNat * 32 ≤ (i 0).val ∧ (i 0).val < (BitVec.ofNat 32 (grid1.coords t 0).val).toNat * 32 + 32
              rw [co1_0]; omega
  | ⟨1, _⟩ => show (BitVec.ofNat 32 (grid1.coords t 1).val).toNat * 512 ≤ (i 1).val ∧ (i 1).val < (BitVec.ofNat 32 (grid1.coords t 1).val).toNat * 512 + 512
              rw [co1_1]; omega

/-- THE ARRAY after the region. -/
theorem array1_2 (c : Dev nD) : (dat1 V c).arrAt 2 cfg1.N = scalesDy (V c main_v2) :=
  (dat1 V c).arrAt_eq_of_cover 2 (scalesDy (V c main_v2)) (fun t _ => flushed1_2 V c t) covers1_2

/-! ### The dequantised values -/

/-- The dequantised values' array. -/
def deqDy (X : S16384x10240.Idx → EReal) : S16384x10240.Idx → EReal := fun j =>
  deq kscale kinv 0x37924925#32 0xC7600000#32 0x47600000#32 (nat2 X) (j 0).val (j 1).val

/-- Where a point's block sits. -/
theorem emb1_3 (t : Fin cfg1.N) (j : S1024x512.Idx) :
    ((win1_3.blk t).view.emb j 0).val = 1024 * (t.val / 20) + (j 0).val
      ∧ ((win1_3.blk t).view.emb j 1).val = 512 * (t.val % 20) + (j 1).val := by
  constructor
  · show (BitVec.ofNat 32 (grid1.coords t 0).val).toNat * 1024 + 1 * (j 0).val = _
    rw [co1_0]; omega
  · show (BitVec.ofNat 32 (grid1.coords t 1).val).toNat * 512 + 1 * (j 1).val = _
    rw [co1_1]; omega

/-- What a point stores is the array's value at the block's place. -/
theorem tile1_3 (c : Dev nD) (t : Fin cfg1.N) (j : S1024x512.Idx) :
    k1_pay6 (k1_pay7 (iblk1 V c 0 t)) (k1_pay8 (iblk1 V c 0 t)) (k1_pay9 (iblk1 V c 0 t)) k1_pay10 j
      = deqDy (V c main_v2) ((win1_3.blk t).view.emb j) := by
  have h0 : (j 0).val < 1024 := (j 0).isLt
  have h1 : (j 1).val < 512 := (j 1).isLt
  obtain ⟨e0, e1⟩ := emb1_3 t j
  rw [pay6_1]
  unfold deqDy
  rw [e0, e1]
  refine deq_shift _ _ _ _ _ _ _ _ _ _ _ (by omega) fun i hi => ?_
  rw [iblk1_nat V c t _ _ (by omega) h1]
  exact congrArg₂ (nat2 _) (by omega) (by omega)

/-- A block that agrees with an array at its place is what the point writes of that array. -/
theorem cut1_3 (t : Fin cfg1.N) (B : Vec Ideal S1024x512 .bf16) (A : S16384x10240.Idx → EReal)
    (h : ∀ j, B j = A ((win1_3.blk t).view.emb j)) :
    (cfg1.win 3).cut (grid1.coords t) B = (win1_3.blk t).view.read (Elt Ideal) A := funext h

/-- What a point writes back is its block of the array. -/
theorem flushed1_3 (c : Dev nD) (t : Fin cfg1.N) :
    (dat1 V c).flushed 3 t = (win1_3.blk t).view.read (Elt Ideal) (deqDy (V c main_v2)) := by
  show (cfg1.win 3).cut (grid1.coords t) ((dat1 V c).after 3 t) = _
  rw [after1_3, out1_3_eq]
  exact cut1_3 t _ _ (tile1_3 V c t)

/-- Every element of the array is in some point's block. -/
theorem covers1_3 (i : S16384x10240.Idx) :
    ∃ t : Fin cfg1.N, (cfg1.win 3).flush t = true ∧ i ∈ (win1_3.blk t).view.set := by
  have h0 : (i 0).val < 16384 := (i 0).isLt
  have h1 : (i 1).val < 10240 := (i 1).isLt
  obtain ⟨t, ht⟩ : ∃ t : Fin cfg1.N, t.val = (i 0).val / 1024 * 20 + (i 1).val / 512 :=
    ⟨⟨(i 0).val / 1024 * 20 + (i 1).val / 512, by rw [show cfg1.N = 320 from N_1]; omega⟩, rfl⟩
  refine ⟨t, flush1_3 t, ?_⟩
  show i ∈ ((View.whole main_v3_2).slice (win1_3.rect t)).set
  rw [View.set_slice_whole, Rect.mem_set_unit]
  intro a
  match a with
  | ⟨0, _⟩ => show (BitVec.ofNat 32 (grid1.coords t 0).val).toNat * 1024 ≤ (i 0).val ∧ (i 0).val < (BitVec.ofNat 32 (grid1.coords t 0).val).toNat * 1024 + 1024
              rw [co1_0]; omega
  | ⟨1, _⟩ => show (BitVec.ofNat 32 (grid1.coords t 1).val).toNat * 512 ≤ (i 1).val ∧ (i 1).val < (BitVec.ofNat 32 (grid1.coords t 1).val).toNat * 512 + 512
              rw [co1_1]; omega

/-- THE ARRAY after the region. -/
theorem array1_3 (c : Dev nD) : (dat1 V c).arrAt 3 cfg1.N = deqDy (V c main_v2) :=
  (dat1 V c).arrAt_eq_of_cover 3 (deqDy (V c main_v2)) (fun t _ => flushed1_3 V c t) covers1_3

end Cert.KernelIdeal.Gen

end
-- ==== Proof.MatmulValue.lean ====
/-
  What the matrix product leaves in its result array: each block accumulates, over the eight points of its run, the
  products of eight slabs of 2048 tokens; together they sum over all the 16384 tokens.
-/
module

public import proofs.«01_k».proof.Proof.Spec
public import proofs.«01_k».proof.Proof.Gen.KernelIdeal.Frame
public import Idealize.ShloMosaic.Lib.Pipeline.Value
public import Idealize.ShloMosaic.Lib.Pointwise.Contract
public import Idealize.ShloMosaic.Lib.Pointwise.Sums
public import Idealize.ShloMosaic.Lib.Tactic

@[expose] public section

set_option maxRecDepth 16384

noncomputable section

namespace Cert.KernelIdeal.Gen

open Idealize.ShloMosaic Idealize.ShloMosaic.TcCoe Idealize.SL.Sem Cert.Spec
open Idealize.ShloMosaic.Pipeline (Dat)

/-! ### One block -/

theorem hz2 : (![0, 0] : Fin 2 → Nat) = fun _ => 0 := funext fun a => by fin_cases a <;> rfl

section Body
variable {F : FTy → Type} [FloatOps F]

/-- A later point adds its product to what the output's buffer holds. -/
theorem out2_B (c : Dev nD) (i : grid2.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (hc : ¬cond2_0 i) (x0 : Vec F S1024x2048 .bf16) (x1 : Vec F S2048x1024 .bf16) (xo : Vec F S1024x1024 .f32) :
    out2_B_2 c i a3 h3 a4 h4 a5 h5 hc x0 x1 xo = k2_pay2 xo x0 x1 := by
  unfold out2_B_2
  rw [View.read_writes_eq_canon _ _ _ (cover2_B_2 c i a3 h3 a4 h4 a5 h5 hc x0 x1 xo)]
  unfold kernelRun2_B
  dsimp only
  rw [View.canon_unit_zero hz2]
  simp only [View.readAt_eq_ld, h3.read_unread, h4.read_unread, h5.read_unread, View.ld_unit_zero (S := S1024x1024) hz2,
    View.ld_unit_zero (S := S1024x2048) hz2, View.ld_unit_zero (S := S2048x1024) hz2]

/-- The first point of a run adds its product to zero. -/
theorem out2_A (c : Dev nD) (i : grid2.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (hc : cond2_0 i) (x0 : Vec F S1024x2048 .bf16) (x1 : Vec F S2048x1024 .bf16) :
    out2_A_2 c i a3 h3 a4 h4 a5 h5 hc x0 x1 = k2_pay2 k2_pay1 x0 x1 := by
  unfold out2_A_2
  rw [View.read_writes_eq_canon _ _ _ (cover2_A_2 c i a3 h3 a4 h4 a5 h5 hc x0 x1)]
  unfold kernelRun2_A
  dsimp only
  sl_unfold_words
  rw [View.canon_cons_unit_zero (S := S1024x1024) hz2, View.readCov_unit_zero (S := S1024x1024) _ hz2]
  simp only [View.readAt_eq_ld, h3.read_unread, h4.read_unread,
    View.ld_unit_zero (S := S1024x2048) hz2, View.ld_unit_zero (S := S2048x1024) hz2]

end Body

/-- The zero block. -/
theorem pay1_2 (j : S1024x1024.Idx) : (k2_pay1 : FVec Ideal S1024x1024 .f32) j = 0 := by
  unfold k2_pay1
  exact Ideal.ofBits_zero_f32

/-- The accumulator plus the block product. -/
theorem pay2_2 (o : Vec Ideal S1024x1024 .f32) (x : Vec Ideal S1024x2048 .bf16) (y : Vec Ideal S2048x1024 .bf16) (j : S1024x1024.Idx) :
    k2_pay2 o x y j = o j + ∑ k : Fin 2048, nat2 x (j 0).val k.val * nat2 y k.val (j 1).val := by
  unfold k2_pay2
  simp only [shapeCast_self]
  show o j + Ideal.matmul dot_S1024x2048_S2048x1024_S1024x1024_1_0_0_1_n_n x y
    (fun _ => Ideal.ofBits .f32 0x00000000#32) j = _
  rw [Ideal.matmul_apply₁ _ (a := 1) rfl (K := 2048) rfl, Ideal.ofBits_zero_f32, zero_add]
  refine congrArg (o j + ·) (Finset.sum_congr rfl fun k _ => ?_)
  exact congrArg₂ (· * ·) (nat2_of x _ _ _ rfl rfl).symm (nat2_of y _ _ _ rfl rfl).symm

/-! ### The blocks in their arrays -/

variable (V : (c : Dev nD) → (b : Ref sig .tc) → Buf (Elt Ideal) ((c : Thread nD τ).loc b))

/-- The grid coordinates of a point, as the index maps' words read them. -/
theorem co2_0 (t : Fin cfg2.N) : (BitVec.ofNat 32 (grid2.coords t 0).val).toNat = t.val / 80 := by
  have ht : t.val < 560 := Nat.lt_of_lt_of_eq t.isLt N_2
  have e : (grid2.coords t 0).val = t.val / 80 % 7 := Pipeline.Grid.coords_val t 0 (by decide) rfl
  rw [e, BitVec.toNat_ofNat]; omega
theorem co2_1 (t : Fin cfg2.N) : (BitVec.ofNat 32 (grid2.coords t 1).val).toNat = t.val / 8 % 10 := by
  have e : (grid2.coords t 1).val = t.val / 8 % 10 := Pipeline.Grid.coords_val t 1 (by decide) rfl
  rw [e, BitVec.toNat_ofNat]; omega
theorem co2_2 (t : Fin cfg2.N) : (BitVec.ofNat 32 (grid2.coords t 2).val).toNat = t.val % 8 := by
  have e : (grid2.coords t 2).val = t.val / 1 % 8 := Pipeline.Grid.coords_val t 2 (by decide) rfl
  rw [e, BitVec.toNat_ofNat]; omega

/-- The left block at a point is a 1024 × 2048 tile of the left array, -/
theorem iblk2_0_nat (c : Dev nD) (t : Fin cfg2.N) (r n : ℕ) (hr : r < 1024) (hn : n < 2048) :
    nat2 (iblk2 V c 0 t : Vec Ideal S1024x2048 .bf16) r n
      = nat2 (V c main_v1_2 : S7168x16384.Idx → EReal) (1024 * (t.val / 80) + r) (2048 * (t.val % 8) + n) := by
  have ht : t.val < 560 := Nat.lt_of_lt_of_eq t.isLt N_2
  rw [nat2_of _ (ValueIdx.ix2 ⟨r, hr⟩ ⟨n, hn⟩) r n rfl rfl]
  rw [nat2_of (V c main_v1_2 : S7168x16384.Idx → EReal)
    (ValueIdx.ix2 ⟨1024 * (t.val / 80) + r, by omega⟩ ⟨2048 * (t.val % 8) + n, by omega⟩) _ _ rfl rfl]
  unfold iblk2
  rw [View.read_apply]
  show V c main_v1_2 _ = V c main_v1_2 _
  congr 1
  funext a
  apply Fin.ext
  match a with
  | ⟨0, _⟩ => show (BitVec.ofNat 32 (grid2.coords t 0).val).toNat * 1024 + 1 * r = 1024 * (t.val / 80) + r
              rw [co2_0]; omega
  | ⟨1, _⟩ => show (BitVec.ofNat 32 (grid2.coords t 2).val).toNat * 2048 + 1 * n = 2048 * (t.val % 8) + n
              rw [co2_2]; omega

/-- and the right block a 2048 × 1024 tile of the right array. -/
theorem iblk2_1_nat (c : Dev nD) (t : Fin cfg2.N) (r n : ℕ) (hr : r < 2048) (hn : n < 1024) :
    nat2 (iblk2 V c 1 t : Vec Ideal S2048x1024 .bf16) r n
      = nat2 (V c main_v3_2 : S16384x10240.Idx → EReal) (2048 * (t.val % 8) + r) (1024 * (t.val / 8 % 10) + n) := by
  have ht : t.val < 560 := Nat.lt_of_lt_of_eq t.isLt N_2
  rw [nat2_of _ (ValueIdx.ix2 ⟨r, hr⟩ ⟨n, hn⟩) r n rfl rfl]
  rw [nat2_of (V c main_v3_2 : S16384x10240.Idx → EReal)
    (ValueIdx.ix2 ⟨2048 * (t.val % 8) + r, by omega⟩ ⟨1024 * (t.val / 8 % 10) + n, by omega⟩) _ _ rfl rfl]
  unfold iblk2
  rw [View.read_apply]
  show V c main_v3_2 _ = V c main_v3_2 _
  congr 1
  funext a
  apply Fin.ext
  match a with
  | ⟨0, _⟩ => show (BitVec.ofNat 32 (grid2.coords t 2).val).toNat * 2048 + 1 * r = 2048 * (t.val % 8) + r
              rw [co2_2]; omega
  | ⟨1, _⟩ => show (BitVec.ofNat 32 (grid2.coords t 1).val).toNat * 1024 + 1 * n = 1024 * (t.val / 8 % 10) + n
              rw [co2_1]; omega

/-- The product of point `n`: its slab of 2048 tokens, at an element of its block. -/
def addend (A B : ℕ → ℕ → EReal) (n : ℕ) (j : S1024x1024.Idx) : EReal :=
  ∑ k : Fin 2048, A (1024 * (n / 80) + (j 0).val) (2048 * (n % 8) + k.val) * B (2048 * (n % 8) + k.val) (1024 * (n / 8 % 10) + (j 1).val)

/-- What a point's body adds is its addend. -/
theorem body2 (c : Dev nD) (t : Fin cfg2.N) (o : Vec Ideal S1024x1024 .f32) (j : S1024x1024.Idx) :
    k2_pay2 o (iblk2 V c 0 t) (iblk2 V c 1 t) j
      = o j + addend (nat2 (V c main_v1_2 : S7168x16384.Idx → EReal)) (nat2 (V c main_v3_2 : S16384x10240.Idx → EReal)) t.val j := by
  rw [pay2_2]
  refine congrArg (o j + ·) (Finset.sum_congr rfl fun k _ => ?_)
  rw [iblk2_0_nat V c t _ _ (j 0).isLt k.isLt, iblk2_1_nat V c t _ _ k.isLt (j 1).isLt]

/-- What the output's buffer holds at the last point of a run: the sum of the run's addends. -/
theorem outs2 (c : Dev nD) (t : Fin cfg2.N) (h7 : t.val % 8 = 7) (j : S1024x1024.Idx) :
    outsAt2 V c t.val t.isLt j = ∑ s ∈ Finset.range 8,
      addend (nat2 (V c main_v1_2 : S7168x16384.Idx → EReal)) (nat2 (V c main_v3_2 : S16384x10240.Idx → EReal)) (8 * (t.val / 8) + s) j := by
  have hb : 8 * (t.val / 8) + t.val % 8 < cfg2.N := by rw [Nat.div_add_mod]; exact t.isLt
  have e := Pipeline.eq_accAt_of_mod (outsAt2 V c) 8
    (fun n h => k2_pay2 k2_pay1 (iblk2 V c 0 ⟨n, h⟩) (iblk2 V c 1 ⟨n, h⟩))
    (fun n h o => k2_pay2 o (iblk2 V c 0 ⟨n, h⟩) (iblk2 V c 1 ⟨n, h⟩))
    (fun n h h0 => (outsAt2_A V c ⟨n, h⟩ h0).trans (out2_A ..))
    (fun n h h0 => (outsAt2_B V c ⟨n + 1, h⟩ h0).trans (out2_B ..))
    (by decide) t.val t.isLt hb
  rw [e]
  rw [Pipeline.accAt_add_apply _ _ (fun _ => 0)
    (addend (nat2 (V c main_v1_2 : S7168x16384.Idx → EReal)) (nat2 (V c main_v3_2 : S16384x10240.Idx → EReal))) (8 * (t.val / 8)) 7
    (fun h i => by rw [body2 V c ⟨_, h⟩, pay1_2])
    (fun n h acc i _ _ => body2 V c ⟨n, h⟩ acc i) (t.val % 8) (by omega) hb j, h7, zero_add]

/-! ### The array -/

/-- The product array: the sum over all the tokens. -/
def mm (A : S7168x16384.Idx → EReal) (B : S16384x10240.Idx → EReal) : S7168x10240.Idx → EReal := fun j =>
  ∑ k : Fin 16384, nat2 A (j 0).val k.val * nat2 B k.val (j 1).val

/-- Where a point's block sits. -/
theorem emb2_2 (t : Fin cfg2.N) (j : S1024x1024.Idx) :
    ((win2_2.blk t).view.emb j 0).val = 1024 * (t.val / 80) + (j 0).val
      ∧ ((win2_2.blk t).view.emb j 1).val = 1024 * (t.val / 8 % 10) + (j 1).val := by
  constructor
  · show (BitVec.ofNat 32 (grid2.coords t 0).val).toNat * 1024 + 1 * (j 0).val = _
    rw [co2_0]; omega
  · show (BitVec.ofNat 32 (grid2.coords t 1).val).toNat * 1024 + 1 * (j 1).val = _
    rw [co2_1]; omega

/-- A run's eight addends sum to the array's value at the block's place. -/
theorem tile2_2 (c : Dev nD) (t : Fin cfg2.N) (h7 : t.val % 8 = 7) (j : S1024x1024.Idx) :
    outsAt2 V c t.val t.isLt j = mm (V c main_v1_2) (V c main_v3_2) ((win2_2.blk t).view.emb j) := by
  obtain ⟨e0, e1⟩ := emb2_2 t j
  rw [outs2 V c t h7, Finset.sum_range]
  unfold mm
  rw [e0, e1]
  refine Eq.trans ?_ (Fin.sum_univ_tiles 8 2048 (by norm_num : 8 * 2048 = 16384) _).symm
  refine Finset.sum_congr rfl fun s _ => ?_
  have hs : s.val < 8 := s.isLt
  unfold addend
  refine Finset.sum_congr rfl fun k _ => ?_
  have a0 : (8 * (t.val / 8) + s.val) / 80 = t.val / 80 := by omega
  have a1 : (8 * (t.val / 8) + s.val) / 8 % 10 = t.val / 8 % 10 := by omega
  have a2 : 2048 * ((8 * (t.val / 8) + s.val) % 8) + k.val = s.val * 2048 + k.val := by omega
  rw [a0, a1, a2]

/-- A block that agrees with an array at its place is what the point writes of that array. -/
theorem cut2_2 (t : Fin cfg2.N) (B : Vec Ideal S1024x1024 .f32) (A : S7168x10240.Idx → EReal)
    (h : ∀ j, B j = A ((win2_2.blk t).view.emb j)) :
    (cfg2.win 2).cut (grid2.coords t) B = (win2_2.blk t).view.read (Elt Ideal) A := funext h

/-- What a run's last point writes back is its block of the array. -/
theorem flushed2_2 (c : Dev nD) (t : Fin cfg2.N) (hf : (cfg2.win 2).flush t = true) :
    (dat2 V c).flushed 2 t = (win2_2.blk t).view.read (Elt Ideal) (mm (V c main_v1_2) (V c main_v3_2)) := by
  show (cfg2.win 2).cut (grid2.coords t) ((dat2 V c).after 2 t) = _
  rw [after2_2]
  exact cut2_2 t _ _ (tile2_2 V c t ((flush2_2 t).mp hf))

/-- Every element of the array is in some run's block. -/
theorem covers2_2 (i : S7168x10240.Idx) :
    ∃ t : Fin cfg2.N, (cfg2.win 2).flush t = true ∧ i ∈ (win2_2.blk t).view.set := by
  have h0 : (i 0).val < 7168 := (i 0).isLt
  have h1 : (i 1).val < 10240 := (i 1).isLt
  obtain ⟨t, ht⟩ : ∃ t : Fin cfg2.N, t.val = (i 0).val / 1024 * 80 + (i 1).val / 1024 * 8 + 7 :=
    ⟨⟨(i 0).val / 1024 * 80 + (i 1).val / 1024 * 8 + 7, by rw [show cfg2.N = 560 from N_2]; omega⟩, rfl⟩
  refine ⟨t, (flush2_2 t).mpr (by omega), ?_⟩
  show i ∈ ((View.whole main_v4).slice (win2_2.rect t)).set
  rw [View.set_slice_whole, Rect.mem_set_unit]
  intro a
  match a with
  | ⟨0, _⟩ => show (BitVec.ofNat 32 (grid2.coords t 0).val).toNat * 1024 ≤ (i 0).val ∧ (i 0).val < (BitVec.ofNat 32 (grid2.coords t 0).val).toNat * 1024 + 1024
              rw [co2_0]; omega
  | ⟨1, _⟩ => show (BitVec.ofNat 32 (grid2.coords t 1).val).toNat * 1024 ≤ (i 1).val ∧ (i 1).val < (BitVec.ofNat 32 (grid2.coords t 1).val).toNat * 1024 + 1024
              rw [co2_1]; omega

/-- THE ARRAY after the region. -/
theorem array2_2 (c : Dev nD) : (dat2 V c).arrAt 2 cfg2.N = mm (V c main_v1_2) (V c main_v3_2) :=
  (dat2 V c).arrAt_eq_of_cover 2 (mm (V c main_v1_2) (V c main_v3_2)) (fun t hf => flushed2_2 V c t hf) covers2_2

end Cert.KernelIdeal.Gen

end
-- ==== Proof.KernelValue.lean ====
/-
  What the kernel's five results hold, as functions of its two arguments.
-/
module

public import proofs.«01_k».proof.Proof.ArrayX
public import proofs.«01_k».proof.Proof.ArrayDy
public import proofs.«01_k».proof.Proof.MatmulValue
public import proofs.«01_k».proof.Proof.KernelRun
public import Idealize.ShloMosaic.Lib.StableHlo.Run

@[expose] public section

set_option maxRecDepth 16384

noncomputable section

namespace Cert.KernelIdeal.Gen

open Idealize.ShloMosaic Idealize.ShloMosaic.TcCoe Idealize.SL.Sem Cert.Spec Cert.Scale

variable (m : (ℓ : Loc nD τ sig) → Buf (Elt Ideal) ℓ) (ρ : Dev nD → PrngReg)

/-- The first argument as the 16384 × 7168 array of tokens and channels, -/
def flatX (c : Dev nD) : S16384x7168.Idx → EReal :=
  shapeCast S16384x7168 (m ((c.tc : Thread nD τ).loc main_arg0) : Vec Ideal S8x2048x7168 .bf16) shapeCasts_S8x2048x7168_S16384x7168
/-- and the second as the 16384 × 10240 array. -/
def flatDy (c : Dev nD) : S16384x10240.Idx → EReal :=
  shapeCast S16384x10240 (m ((c.tc : Thread nD τ).loc main_arg1) : Vec Ideal S8x2048x10240 .bf16) shapeCasts_S8x2048x10240_S16384x10240

/-- The first quantiser reads the first argument, -/
theorem V1_main_v0 (c : Dev nD) : V1 m ρ c main_v0 = flatX m c := by
  show StableHlo.after hostOps0 (W0 m ρ c) (Proc.devRef .tc main_v0) = _
  after_results
  rfl
/-- and the second quantiser the second. -/
theorem V3_main_v2 (c : Dev nD) : V3 m ρ c main_v2 = flatDy m c := by
  show StableHlo.after hostOps1 (W2 m ρ c) (Proc.devRef .tc main_v2) = _
  after_results
  rw [W2_args m ρ c main_arg1 (by decide)]
  rfl

/-- The arrays the matrix product reads. -/
theorem V4_main_v1_2 (c : Dev nD) : V4 m ρ c main_v1_2 = deqX (flatX m c) := by
  show W4 m ρ c (Proc.devRef .tc main_v1_2) = _
  rw [W4_of_ne m ρ c main_v1_2 (by decide), W3_of m ρ c main_v1_2 (by decide)]
  refine (W2_arr m ρ c 3).trans ?_
  rw [array0_3, V1_main_v0]
theorem V4_main_v3_2 (c : Dev nD) : V4 m ρ c main_v3_2 = deqDy (flatDy m c) := by
  show W4 m ρ c (Proc.devRef .tc main_v3_2) = _
  refine (W4_arr m ρ c 3).trans ?_
  rw [array1_3, V3_main_v2]

/-- Result 1: the product of the dequantised arrays. -/
theorem res_main_v4 (c : Dev nD) : W6 m ρ c (Proc.devRef .tc main_v4) = mm (deqX (flatX m c)) (deqDy (flatDy m c)) := by
  rw [W6_of m ρ c main_v4 (by decide)]
  refine (W5_arr m ρ c 2).trans ?_
  rw [array2_2, V4_main_v1_2, V4_main_v3_2]

/-- Result 3: the scales of the first argument, -/
theorem res_main_v1_1 (c : Dev nD) : W6 m ρ c (Proc.devRef .tc main_v1_1) = scalesX (flatX m c) := by
  rw [W6_of m ρ c main_v1_1 (by decide), W5_of_ne m ρ c main_v1_1 (by decide), W4_of_ne m ρ c main_v1_1 (by decide),
    W3_of m ρ c main_v1_1 (by decide)]
  refine (W2_arr m ρ c 2).trans ?_
  rw [array0_2, V1_main_v0]
/-- and result 5: those of the second. -/
theorem res_main_v3_1 (c : Dev nD) : W6 m ρ c (Proc.devRef .tc main_v3_1) = scalesDy (flatDy m c) := by
  rw [W6_of m ρ c main_v3_1 (by decide), W5_of_ne m ρ c main_v3_1 (by decide)]
  refine (W4_arr m ρ c 2).trans ?_
  rw [array1_2, V3_main_v2]

/-- Result 2: the codes of the first argument, -/
theorem res_main_v5 (c : Dev nD) : W6 m ρ c (Proc.devRef .tc main_v5)
    = (shapeCast S8x2048x7168 (codesX (flatX m c) : Vec Ideal S16384x7168 .fp8e4m3) shapeCasts_S16384x7168_S8x2048x7168) := by
  have e : W5 m ρ c (Proc.devRef .tc main_v1_0) = codesX (flatX m c) := by
    rw [W5_of_ne m ρ c main_v1_0 (by decide), W4_of_ne m ρ c main_v1_0 (by decide), W3_of m ρ c main_v1_0 (by decide)]
    refine (W2_arr m ρ c 1).trans ?_
    rw [array0_1, V1_main_v0]
  show StableHlo.after hostOps3 (W5 m ρ c) (Proc.devRef .tc main_v5) = _
  after_results
  rw [e]
  rfl
/-- and result 4: those of the second. -/
theorem res_main_v6 (c : Dev nD) : W6 m ρ c (Proc.devRef .tc main_v6)
    = (shapeCast S8x2048x10240 (codesDy (flatDy m c) : Vec Ideal S16384x10240 .fp8e5m2) shapeCasts_S16384x10240_S8x2048x10240) := by
  have e : W5 m ρ c (Proc.devRef .tc main_v3_0) = codesDy (flatDy m c) := by
    rw [W5_of_ne m ρ c main_v3_0 (by decide)]
    refine (W4_arr m ρ c 1).trans ?_
    rw [array1_1, V3_main_v2]
  show StableHlo.after hostOps3 (W5 m ρ c) (Proc.devRef .tc main_v6) = _
  after_results
  rw [e]
  rfl

end Cert.KernelIdeal.Gen

end
-- ==== Proof.RefDefs.lean ====
/-
  The reference's steps as functions of an operand's columns `c`: the same host operations serve both operands, which
  differ in the number of columns, the format's constants and the code format.
-/
module

public import Idealize.ShloMosaic.PureOps

@[expose] public section

noncomputable section

namespace Cert.Ref

open Idealize.ShloMosaic

/-- The shape of a scalar, -/
abbrev Z : Shape := ⟨0, ![]⟩
/-- of the tokens and columns, -/
abbrev T (c : ℕ) : Shape := ⟨2, ![16384, c]⟩
/-- of the groups, tokens of a group and columns, -/
abbrev A3 (c : ℕ) : Shape := ⟨3, ![512, 32, c]⟩
/-- of the groups and columns, -/
abbrev A2 (c : ℕ) : Shape := ⟨2, ![512, c]⟩
/-- and of the same with a unit axis between. -/
abbrev A21 (c : ℕ) : Shape := ⟨3, ![512, 1, c]⟩

/-- The side conditions of the steps' shapes. -/
structure Ok (c : ℕ) : Prop where
  h : 0 < Z.numel
  red : (A3 c).ReducesTo [1] (A2 c)
  fib : (A3 c).Reduces [1] (A2 c)
  b2 : Z.BroadcastsInDim (A2 c) ![]
  b3 : Z.BroadcastsInDim (A3 c) ![]
  b21 : (A2 c).BroadcastsInDim (A21 c) ![0, 2]
  b13 : (A21 c).BroadcastsInDim (A3 c) ![0, 1, 2]
  grp : (T c).ShapeCasts (A3 c)
  ungrp : (A3 c).ShapeCasts (T c)
  wide : FTy.bits .bf16 < FTy.bits .f32

variable {F : FTy → Type} [FloatOps F] {c : ℕ} (K : Ok c)

/-- The values in float32, in groups of 32 tokens. -/
def grouped (X : FVec F (T c) .bf16) : FVec F (A3 c) .f32 := shapeCast (A3 c) (extf .f32 X K.wide) K.grp

/-- The ratio of every group: its greatest absolute value times the format's constant. -/
def ratioR (cw : BitVec 32) (X : FVec F (A3 c) .f32) : FVec F (A2 c) .f32 :=
  mulf (Host.reduce FloatOps.maximumf (Host.absf X) (constant Z .f32 0xFF800000#32) K.red K.h)
    (broadcastInDim (A2 c) ![] K.b2 (constant Z .f32 cw))

/-- The exponent of every ratio, plus one; zero below the least normal number. -/
def expR (Y : FVec F (A2 c) .f32) : FVec F (A2 c) .f32 :=
  select (cmpf .olt Y (broadcastInDim (A2 c) ![] K.b2 (constant Z .f32 0x00800000#32)))
    (broadcastInDim (A2 c) ![] K.b2 (id (constant Z .f32 0x00000000#32)))
    (addf (Host.floor (Host.divf (Host.log Y) (Host.log (broadcastInDim (A2 c) ![] K.b2 (constant Z .f32 0x40000000#32)))))
      (broadcastInDim (A2 c) ![] K.b2 (constant Z .f32 0x3F800000#32)))

/-- Two to an exponent. -/
def powR (E : FVec F (A2 c) .f32) : FVec F (A2 c) .f32 :=
  Host.powf (broadcastInDim (A2 c) ![] K.b2 (constant Z .f32 0x40000000#32)) E

/-- A value per group and column, repeated along the group's tokens. -/
def spreadR {φ : FTy} (S : FVec F (A2 c) φ) : FVec F (A3 c) φ :=
  broadcastInDim (A3 c) ![0, 1, 2] K.b13 (broadcastInDim (A21 c) ![0, 2] K.b21 S)

/-- The values times the inverse scales, clipped. -/
def clipR (lo hi : BitVec 32) (X : FVec F (A3 c) .f32) (E : FVec F (A2 c) .f32) : FVec F (T c) .f32 :=
  shapeCast (T c) (minimumf (broadcastInDim (A3 c) ![] K.b3 (id (constant Z .f32 hi)))
    (maximumf (broadcastInDim (A3 c) ![] K.b3 (id (constant Z .f32 lo))) (mulf X (spreadR K (powR K (Host.negf E)))))) K.ungrp

/-- The codes times the scales. -/
def hatR (W : FVec F (T c) .bf16) (S : FVec F (A2 c) .f32) : FVec F (T c) .bf16 :=
  shapeCast (T c) (mulf (shapeCast (A3 c) W K.grp) (spreadR K (truncf .bf16 S K.wide))) K.ungrp

/-- The scales of an operand, -/
def scalesR (cw : BitVec 32) (X : FVec F (T c) .bf16) : FVec F (A2 c) .f32 := powR K (expR K (ratioR K cw (grouped K X)))

/-- and its scaled and clipped values. -/
def clippedR (cw lo hi : BitVec 32) (X : FVec F (T c) .bf16) : FVec F (T c) .f32 :=
  clipR K lo hi (grouped K X) (expR K (ratioR K cw (grouped K X)))

end Cert.Ref

end
-- ==== Proof.RefRead.lean ====
/-
  What the reference's buffers hold where its two halves meet: the scales and the clipped values of both operands, as the
  steps of `RefDefs` over the arguments.
-/
module

public import proofs.«01_k».proof.Proof.RefDefs
public import proofs.«01_k».proof.Proof.Gen.ReferenceIdeal.Frame
public import Idealize.ShloMosaic.Lib.StableHlo.RunRead

@[expose] public section

set_option maxRecDepth 16384

noncomputable section

namespace Cert.ReferenceIdeal.Gen

open Idealize.ShloMosaic Idealize.ShloMosaic.TcCoe Idealize.SL.Sem
open Idealize.ShloMosaic.Pipeline (Dat)
open Cert.Ref

/-- The side conditions at x's columns, -/
theorem okX : Ok 7168 where
  h := h_S_
  red := reducesTo_S512x32x7168_S512x7168_d1
  fib := by decide
  b2 := bcast_S_S512x7168
  b3 := bcast_S_S512x32x7168
  b21 := bcast_S512x7168_S512x1x7168_0_2
  b13 := bcast_S512x1x7168_S512x32x7168_0_1_2
  grp := shapeCasts_S16384x7168_S512x32x7168
  ungrp := shapeCasts_S512x32x7168_S16384x7168
  wide := bitsLt_bf16_f32

/-- and at dy's. -/
theorem okDy : Ok 10240 where
  h := h_S_
  red := reducesTo_S512x32x10240_S512x10240_d1
  fib := by decide
  b2 := bcast_S_S512x10240
  b3 := bcast_S_S512x32x10240
  b21 := bcast_S512x10240_S512x1x10240_0_2
  b13 := bcast_S512x1x10240_S512x32x10240_0_1_2
  grp := shapeCasts_S16384x10240_S512x32x10240
  ungrp := shapeCasts_S512x32x10240_S16384x10240
  wide := bitsLt_bf16_f32

variable {F : FTy → Type} [FloatOps F]
variable (m : (ℓ : Loc nD τ sig) → Buf (Elt F) ℓ)

/-- x with its tokens in one axis, -/
def tokX (c : Dev nD) : FVec F S16384x7168 .bf16 :=
  shapeCast S16384x7168 (m (c, Proc.devRef .tc main_arg0) : Vec F S8x2048x7168 .bf16) shapeCasts_S8x2048x7168_S16384x7168

/-- and dy. -/
def tokDy (c : Dev nD) : FVec F S16384x10240 .bf16 :=
  shapeCast S16384x10240 (m (c, Proc.devRef .tc main_arg1) : Vec F S8x2048x10240 .bf16) shapeCasts_S8x2048x10240_S16384x10240

/-- The scales of x, -/
theorem V_main_v18 (c : Dev nD) : V0 m c (Proc.devRef .tc main_v18) = scalesR okX 0x3B124925#32 (tokX m c) := by
  unfold V0
  after_reads_simp
  simp -implicitDefEqProofs only [StableHlo.TRef.toBuf, StableHlo.TRef.ofBuf, cast_cast, cast_eq]
  rfl

/-- its clipped values, -/
theorem V_main_v26 (c : Dev nD) : V0 m c (Proc.devRef .tc main_v26)
    = clippedR okX 0x3B124925#32 0xC3E00000#32 0x43E00000#32 (tokX m c) := by
  unfold V0
  after_reads_simp
  simp -implicitDefEqProofs only [StableHlo.TRef.toBuf, StableHlo.TRef.ofBuf, cast_cast, cast_eq]
  rfl

/-- the scales of dy, -/
theorem V_main_v45 (c : Dev nD) : V0 m c (Proc.devRef .tc main_v45) = scalesR okDy 0x37924925#32 (tokDy m c) := by
  unfold V0
  after_reads_simp
  simp -implicitDefEqProofs only [StableHlo.TRef.toBuf, StableHlo.TRef.ofBuf, cast_cast, cast_eq]
  rfl

/-- and its clipped values. -/
theorem V_main_v53 (c : Dev nD) : V0 m c (Proc.devRef .tc main_v53)
    = clippedR okDy 0x37924925#32 0xC7600000#32 0x47600000#32 (tokDy m c) := by
  unfold V0
  after_reads_simp
  simp -implicitDefEqProofs only [StableHlo.TRef.toBuf, StableHlo.TRef.ofBuf, cast_cast, cast_eq]
  rfl

end Cert.ReferenceIdeal.Gen

end
-- ==== Proof.RefCall.lean ====
/-
  What the reference's gridless call leaves in its four results: the code of every clipped value, and the codes widened
  back.
-/
module

public import proofs.«01_k».proof.Proof.RefRead
public import Idealize.ShloMosaic.Lib.Pipeline.Value

@[expose] public section

noncomputable section

namespace Cert.ReferenceIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz0 : (![0, 0] : Fin 2 → Nat) = fun _ => 0 := funext fun a => by fin_cases a <;> rfl

/-- Window 0's block is the whole array. -/
theorem emb0_0 (t : Fin cfg0.N) (j : S16384x7168.Idx) : (win0_0.blk t).view.emb j = j := by
  funext a
  match a with
  | ⟨0, _⟩ => exact Fin.ext (show 0 * 16384 + 1 * (j 0).val = (j 0).val by omega)
  | ⟨1, _⟩ => exact Fin.ext (show 0 * 7168 + 1 * (j 1).val = (j 1).val by omega)

theorem whole0_0 (t : Fin cfg0.N) (A : Vec F S16384x7168 .f32) : (win0_0.blk t).view.read (Elt F) A = A :=
  funext fun j => congrArg A (emb0_0 t j)

/-- What the body loads of it. -/
theorem iblk0_0 (c : Dev nD) (t : Fin cfg0.N) : iblk m c 0 t = V m c main_v26 := whole0_0 t _

/-- Window 1's block is the whole array. -/
theorem emb0_1 (t : Fin cfg0.N) (j : S16384x10240.Idx) : (win0_1.blk t).view.emb j = j := by
  funext a
  match a with
  | ⟨0, _⟩ => exact Fin.ext (show 0 * 16384 + 1 * (j 0).val = (j 0).val by omega)
  | ⟨1, _⟩ => exact Fin.ext (show 0 * 10240 + 1 * (j 1).val = (j 1).val by omega)

theorem whole0_1 (t : Fin cfg0.N) (A : Vec F S16384x10240 .f32) : (win0_1.blk t).view.read (Elt F) A = A :=
  funext fun j => congrArg A (emb0_1 t j)

/-- What the body loads of it. -/
theorem iblk0_1 (c : Dev nD) (t : Fin cfg0.N) : iblk m c 1 t = V m c main_v53 := whole0_1 t _

/-- Window 2's block is the whole array. -/
theorem emb0_2 (t : Fin cfg0.N) (j : S16384x7168.Idx) : (win0_2.blk t).view.emb j = j := by
  funext a
  match a with
  | ⟨0, _⟩ => exact Fin.ext (show 0 * 16384 + 1 * (j 0).val = (j 0).val by omega)
  | ⟨1, _⟩ => exact Fin.ext (show 0 * 7168 + 1 * (j 1).val = (j 1).val by omega)

/-- What the body stores there, of the loaded clipped values. -/
def cast1 (A : FVec F S16384x7168 .f32) : FVec F S16384x7168 .fp8e4m3 := truncf .fp8e4m3 A bitsLt_fp8e4m3_f32

theorem out0_2_eq (x0 : Vec F S16384x7168 .f32) (x1 : Vec F S16384x10240 .f32) : out0_2 x0 x1 = cast1 x0 := by
  unfold out0_2
  rw [View.canon_unit_zero hz0, View.ld_unit_zero (S := S16384x7168) hz0]
  unfold k0_pay1 cast1
  dsimp only
  rw [shapeCast_self]

/-- An array is what the point writes of it. -/
theorem cut0_2 (t : Fin cfg0.N) (A : Vec F S16384x7168 .fp8e4m3) :
    (cfg0.win 2).cut (grid0.coords t) A = (win0_2.blk t).view.read (Elt F) A :=
  funext fun j => congrArg A (emb0_2 t j).symm

theorem flushed0_2 (c : Dev nD) (t : Fin cfg0.N) :
    (dats m 0 c).flushed 2 t = (win0_2.blk t).view.read (Elt F) (cast1 (V m c main_v26 : FVec F S16384x7168 .f32)) := by
  show (cfg0.win 2).cut (grid0.coords t) ((dats m 0 c).after 2 t) = _
  rw [after0_2, iblk0_0, iblk0_1, out0_2_eq]
  exact cut0_2 t _

/-- The one block is the whole array. -/
theorem covers0_2 (i : S16384x7168.Idx) : ∃ t : Fin cfg0.N, (cfg0.win 2).flush t = true ∧ i ∈ (win0_2.blk t).view.set := by
  obtain ⟨t⟩ : Nonempty (Fin cfg0.N) := ⟨⟨0, by rw [show cfg0.N = 1 from N_0]; omega⟩⟩
  have h0 : (i 0).val < 16384 := (i 0).isLt
  have h1 : (i 1).val < 7168 := (i 1).isLt
  refine ⟨t, flush0_2 t, ?_⟩
  show i ∈ ((View.whole main_v54_0).slice (win0_2.rect t)).set
  rw [View.set_slice_whole, Rect.mem_set_unit]
  intro a
  match a with
  | ⟨0, _⟩ => show 0 * 16384 ≤ (i 0).val ∧ (i 0).val < 0 * 16384 + 16384
              omega
  | ⟨1, _⟩ => show 0 * 7168 ≤ (i 1).val ∧ (i 1).val < 0 * 7168 + 7168
              omega

/-- THE ARRAY after the call. -/
theorem array0_2 (c : Dev nD) : (dats m 0 c).arrAt 2 cfg0.N = cast1 (V m c main_v26 : FVec F S16384x7168 .f32) :=
  (dats m 0 c).arrAt_eq_of_cover 2 (cast1 (V m c main_v26 : FVec F S16384x7168 .f32)) (fun t _ => flushed0_2 m c t) covers0_2

/-- Window 3's block is the whole array. -/
theorem emb0_3 (t : Fin cfg0.N) (j : S16384x7168.Idx) : (win0_3.blk t).view.emb j = j := by
  funext a
  match a with
  | ⟨0, _⟩ => exact Fin.ext (show 0 * 16384 + 1 * (j 0).val = (j 0).val by omega)
  | ⟨1, _⟩ => exact Fin.ext (show 0 * 7168 + 1 * (j 1).val = (j 1).val by omega)

/-- What the body stores there, of the loaded clipped values. -/
def cast2 (A : FVec F S16384x7168 .f32) : FVec F S16384x7168 .bf16 := extf .bf16 (truncf .fp8e4m3 A bitsLt_fp8e4m3_f32) bitsLt_fp8e4m3_bf16

theorem out0_3_eq (x0 : Vec F S16384x7168 .f32) (x1 : Vec F S16384x10240 .f32) : out0_3 x0 x1 = cast2 x0 := by
  unfold out0_3
  rw [View.canon_unit_zero hz0, View.ld_unit_zero (S := S16384x7168) hz0]
  unfold k0_pay2 cast2
  dsimp only
  rw [shapeCast_self]

/-- An array is what the point writes of it. -/
theorem cut0_3 (t : Fin cfg0.N) (A : Vec F S16384x7168 .bf16) :
    (cfg0.win 3).cut (grid0.coords t) A = (win0_3.blk t).view.read (Elt F) A :=
  funext fun j => congrArg A (emb0_3 t j).symm

theorem flushed0_3 (c : Dev nD) (t : Fin cfg0.N) :
    (dats m 0 c).flushed 3 t = (win0_3.blk t).view.read (Elt F) (cast2 (V m c main_v26 : FVec F S16384x7168 .f32)) := by
  show (cfg0.win 3).cut (grid0.coords t) ((dats m 0 c).after 3 t) = _
  rw [after0_3, iblk0_0, iblk0_1, out0_3_eq]
  exact cut0_3 t _

/-- The one block is the whole array. -/
theorem covers0_3 (i : S16384x7168.Idx) : ∃ t : Fin cfg0.N, (cfg0.win 3).flush t = true ∧ i ∈ (win0_3.blk t).view.set := by
  obtain ⟨t⟩ : Nonempty (Fin cfg0.N) := ⟨⟨0, by rw [show cfg0.N = 1 from N_0]; omega⟩⟩
  have h0 : (i 0).val < 16384 := (i 0).isLt
  have h1 : (i 1).val < 7168 := (i 1).isLt
  refine ⟨t, flush0_3 t, ?_⟩
  show i ∈ ((View.whole main_v54_1).slice (win0_3.rect t)).set
  rw [View.set_slice_whole, Rect.mem_set_unit]
  intro a
  match a with
  | ⟨0, _⟩ => show 0 * 16384 ≤ (i 0).val ∧ (i 0).val < 0 * 16384 + 16384
              omega
  | ⟨1, _⟩ => show 0 * 7168 ≤ (i 1).val ∧ (i 1).val < 0 * 7168 + 7168
              omega

/-- THE ARRAY after the call. -/
theorem array0_3 (c : Dev nD) : (dats m 0 c).arrAt 3 cfg0.N = cast2 (V m c main_v26 : FVec F S16384x7168 .f32) :=
  (dats m 0 c).arrAt_eq_of_cover 3 (cast2 (V m c main_v26 : FVec F S16384x7168 .f32)) (fun t _ => flushed0_3 m c t) covers0_3

/-- Window 4's block is the whole array. -/
theorem emb0_4 (t : Fin cfg0.N) (j : S16384x10240.Idx) : (win0_4.blk t).view.emb j = j := by
  funext a
  match a with
  | ⟨0, _⟩ => exact Fin.ext (show 0 * 16384 + 1 * (j 0).val = (j 0).val by omega)
  | ⟨1, _⟩ => exact Fin.ext (show 0 * 10240 + 1 * (j 1).val = (j 1).val by omega)

/-- What the body stores there, of the loaded clipped values. -/
def cast3 (A : FVec F S16384x10240 .f32) : FVec F S16384x10240 .fp8e5m2 := truncf .fp8e5m2 A bitsLt_fp8e5m2_f32

theorem out0_4_eq (x0 : Vec F S16384x7168 .f32) (x1 : Vec F S16384x10240 .f32) : out0_4 x0 x1 = cast3 x1 := by
  unfold out0_4
  rw [View.canon_unit_zero hz0, View.ld_unit_zero (S := S16384x10240) hz0]
  unfold k0_pay3 cast3
  dsimp only
  rw [shapeCast_self]

/-- An array is what the point writes of it. -/
theorem cut0_4 (t : Fin cfg0.N) (A : Vec F S16384x10240 .fp8e5m2) :
    (cfg0.win 4).cut (grid0.coords t) A = (win0_4.blk t).view.read (Elt F) A :=
  funext fun j => congrArg A (emb0_4 t j).symm

theorem flushed0_4 (c : Dev nD) (t : Fin cfg0.N) :
    (dats m 0 c).flushed 4 t = (win0_4.blk t).view.read (Elt F) (cast3 (V m c main_v53 : FVec F S16384x10240 .f32)) := by
  show (cfg0.win 4).cut (grid0.coords t) ((dats m 0 c).after 4 t) = _
  rw [after0_4, iblk0_0, iblk0_1, out0_4_eq]
  exact cut0_4 t _

/-- The one block is the whole array. -/
theorem covers0_4 (i : S16384x10240.Idx) : ∃ t : Fin cfg0.N, (cfg0.win 4).flush t = true ∧ i ∈ (win0_4.blk t).view.set := by
  obtain ⟨t⟩ : Nonempty (Fin cfg0.N) := ⟨⟨0, by rw [show cfg0.N = 1 from N_0]; omega⟩⟩
  have h0 : (i 0).val < 16384 := (i 0).isLt
  have h1 : (i 1).val < 10240 := (i 1).isLt
  refine ⟨t, flush0_4 t, ?_⟩
  show i ∈ ((View.whole main_v54_2).slice (win0_4.rect t)).set
  rw [View.set_slice_whole, Rect.mem_set_unit]
  intro a
  match a with
  | ⟨0, _⟩ => show 0 * 16384 ≤ (i 0).val ∧ (i 0).val < 0 * 16384 + 16384
              omega
  | ⟨1, _⟩ => show 0 * 10240 ≤ (i 1).val ∧ (i 1).val < 0 * 10240 + 10240
              omega

/-- THE ARRAY after the call. -/
theorem array0_4 (c : Dev nD) : (dats m 0 c).arrAt 4 cfg0.N = cast3 (V m c main_v53 : FVec F S16384x10240 .f32) :=
  (dats m 0 c).arrAt_eq_of_cover 4 (cast3 (V m c main_v53 : FVec F S16384x10240 .f32)) (fun t _ => flushed0_4 m c t) covers0_4

/-- Window 5's block is the whole array. -/
theorem emb0_5 (t : Fin cfg0.N) (j : S16384x10240.Idx) : (win0_5.blk t).view.emb j = j := by
  funext a
  match a with
  | ⟨0, _⟩ => exact Fin.ext (show 0 * 16384 + 1 * (j 0).val = (j 0).val by omega)
  | ⟨1, _⟩ => exact Fin.ext (show 0 * 10240 + 1 * (j 1).val = (j 1).val by omega)

/-- What the body stores there, of the loaded clipped values. -/
def cast4 (A : FVec F S16384x10240 .f32) : FVec F S16384x10240 .bf16 := extf .bf16 (truncf .fp8e5m2 A bitsLt_fp8e5m2_f32) bitsLt_fp8e5m2_bf16

theorem out0_5_eq (x0 : Vec F S16384x7168 .f32) (x1 : Vec F S16384x10240 .f32) : out0_5 x0 x1 = cast4 x1 := by
  unfold out0_5
  rw [View.canon_unit_zero hz0, View.ld_unit_zero (S := S16384x10240) hz0]
  unfold k0_pay4 cast4
  dsimp only
  rw [shapeCast_self]

/-- An array is what the point writes of it. -/
theorem cut0_5 (t : Fin cfg0.N) (A : Vec F S16384x10240 .bf16) :
    (cfg0.win 5).cut (grid0.coords t) A = (win0_5.blk t).view.read (Elt F) A :=
  funext fun j => congrArg A (emb0_5 t j).symm

theorem flushed0_5 (c : Dev nD) (t : Fin cfg0.N) :
    (dats m 0 c).flushed 5 t = (win0_5.blk t).view.read (Elt F) (cast4 (V m c main_v53 : FVec F S16384x10240 .f32)) := by
  show (cfg0.win 5).cut (grid0.coords t) ((dats m 0 c).after 5 t) = _
  rw [after0_5, iblk0_0, iblk0_1, out0_5_eq]
  exact cut0_5 t _

/-- The one block is the whole array. -/
theorem covers0_5 (i : S16384x10240.Idx) : ∃ t : Fin cfg0.N, (cfg0.win 5).flush t = true ∧ i ∈ (win0_5.blk t).view.set := by
  obtain ⟨t⟩ : Nonempty (Fin cfg0.N) := ⟨⟨0, by rw [show cfg0.N = 1 from N_0]; omega⟩⟩
  have h0 : (i 0).val < 16384 := (i 0).isLt
  have h1 : (i 1).val < 10240 := (i 1).isLt
  refine ⟨t, flush0_5 t, ?_⟩
  show i ∈ ((View.whole main_v54_3).slice (win0_5.rect t)).set
  rw [View.set_slice_whole, Rect.mem_set_unit]
  intro a
  match a with
  | ⟨0, _⟩ => show 0 * 16384 ≤ (i 0).val ∧ (i 0).val < 0 * 16384 + 16384
              omega
  | ⟨1, _⟩ => show 0 * 10240 ≤ (i 1).val ∧ (i 1).val < 0 * 10240 + 10240
              omega

/-- THE ARRAY after the call. -/
theorem array0_5 (c : Dev nD) : (dats m 0 c).arrAt 5 cfg0.N = cast4 (V m c main_v53 : FVec F S16384x10240 .f32) :=
  (dats m 0 c).arrAt_eq_of_cover 5 (cast4 (V m c main_v53 : FVec F S16384x10240 .f32)) (fun t _ => flushed0_5 m c t) covers0_5

end Cert.ReferenceIdeal.Gen

end
-- ==== Proof.RefRun.lean ====
/-
  The reference's run: what its five results hold, as the steps of `RefDefs` over the arguments.
-/
module

public import proofs.«01_k».proof.Proof.RefCall

@[expose] public section

set_option maxRecDepth 16384

noncomputable section

namespace Cert.ReferenceIdeal.Gen

open Idealize.ShloMosaic Idealize.ShloMosaic.TcCoe Idealize.SL.Sem
open Idealize.ShloMosaic.Pipeline (Dat)
open Cert.Ref

variable {F : FTy → Type} [FloatOps F]

/-- The weight gradient: the product of the dequantised operands along the tokens. -/
def dwR (P : FVec F S16384x7168 .bf16) (Q : FVec F S16384x10240 .bf16) : FVec F S7168x10240 .f32 :=
  Host.dotGeneral dot_S16384x7168_S16384x10240_S7168x10240_0_0_1_1_n_n none P Q

/-- What the lines after the call leave in the gradient, from the buffers they find, -/
theorem tail_main_v67 (V : Valuation τ sig (Elt F)) : StableHlo.after [hostOps1].flatten V (Proc.devRef .tc main_v67)
    = dwR (hatR okX (V (Proc.devRef .tc main_v54_1) : Vec F S16384x7168 .bf16) (V (Proc.devRef .tc main_v18) : Vec F S512x7168 .f32))
        (hatR okDy (V (Proc.devRef .tc main_v54_3) : Vec F S16384x10240 .bf16) (V (Proc.devRef .tc main_v45) : Vec F S512x10240 .f32)) := by
  after_reads_simp
  rfl

/-- in the codes of x, -/
theorem tail_main_v68 (V : Valuation τ sig (Elt F)) : StableHlo.after [hostOps1].flatten V (Proc.devRef .tc main_v68)
    = shapeCast S8x2048x7168 (V (Proc.devRef .tc main_v54_0) : Vec F S16384x7168 .fp8e4m3) shapeCasts_S16384x7168_S8x2048x7168 := by
  after_reads_simp
  rfl

/-- in the codes of dy, -/
theorem tail_main_v69 (V : Valuation τ sig (Elt F)) : StableHlo.after [hostOps1].flatten V (Proc.devRef .tc main_v69)
    = shapeCast S8x2048x10240 (V (Proc.devRef .tc main_v54_2) : Vec F S16384x10240 .fp8e5m2) shapeCasts_S16384x10240_S8x2048x10240 := by
  after_reads_simp
  rfl

/-- and in the scales. -/
theorem tail_main_v18 (V : Valuation τ sig (Elt F)) : StableHlo.after [hostOps1].flatten V (Proc.devRef .tc main_v18)
    = V (Proc.devRef .tc main_v18) := by
  after_reads_simp

theorem tail_main_v45 (V : Valuation τ sig (Elt F)) : StableHlo.after [hostOps1].flatten V (Proc.devRef .tc main_v45)
    = V (Proc.devRef .tc main_v45) := by
  after_reads_simp

variable (m : (ℓ : Loc nD τ sig) → Buf (Elt F) ℓ) (ρ : Dev nD → PrngReg)

/-- The buffers after the call. -/
def Vc (c : Dev nD) : Valuation τ sig (Elt F) :=
  Pipeline.withArrays spec0 c (V0 m c) fun w => (dats m 0 c).arrAt w cfg0.N

theorem Vc_arr (c : Dev nD) (w : Fin cfg0.W) :
    Vc m c (Proc.devRef .tc (Pipeline.arrRef spec0 w)) = (dats m 0 c).arrAt w cfg0.N := by
  unfold Vc; exact Pipeline.withArrays_arr spec0 launch0.win.arr_inj c _ _ w

theorem Vc_of_ne (c : Dev nD) (b : Ref sig .tc) (hb : ∀ w, Pipeline.arrRef spec0 w ≠ b) :
    Vc m c (Proc.devRef .tc b) = V0 m c (Proc.devRef .tc b) := by
  unfold Vc; exact Pipeline.withArrays_of_ne spec0 c _ _ b hb

/-- The scales of x, -/
abbrev sX (c : Dev nD) : FVec F S512x7168 .f32 := scalesR okX 0x3B124925#32 (tokX m c)
/-- its clipped values, -/
abbrev qX (c : Dev nD) : FVec F S16384x7168 .f32 := clippedR okX 0x3B124925#32 0xC3E00000#32 0x43E00000#32 (tokX m c)
/-- the scales of dy, -/
abbrev sDy (c : Dev nD) : FVec F S512x10240 .f32 := scalesR okDy 0x37924925#32 (tokDy m c)
/-- and its clipped values. -/
abbrev qDy (c : Dev nD) : FVec F S16384x10240 .f32 := clippedR okDy 0x37924925#32 0xC7600000#32 0x47600000#32 (tokDy m c)

theorem Vc_main_v18 (c : Dev nD) : Vc m c (Proc.devRef .tc main_v18) = sX m c :=
  (Vc_of_ne m c main_v18 (by exact (by decide : ∀ w, Pipeline.arrRef spec0 w ≠ main_v18))).trans (V_main_v18 m c)
theorem Vc_main_v45 (c : Dev nD) : Vc m c (Proc.devRef .tc main_v45) = sDy m c :=
  (Vc_of_ne m c main_v45 (by exact (by decide : ∀ w, Pipeline.arrRef spec0 w ≠ main_v45))).trans (V_main_v45 m c)
theorem Vc_main_v54_0 (c : Dev nD) : Vc m c (Proc.devRef .tc main_v54_0) = cast1 (qX m c) :=
  ((Vc_arr m c 2).trans (array0_2 m c)).trans (congrArg cast1 (V_main_v26 m c))
theorem Vc_main_v54_1 (c : Dev nD) : Vc m c (Proc.devRef .tc main_v54_1) = cast2 (qX m c) :=
  ((Vc_arr m c 3).trans (array0_3 m c)).trans (congrArg cast2 (V_main_v26 m c))
theorem Vc_main_v54_2 (c : Dev nD) : Vc m c (Proc.devRef .tc main_v54_2) = cast3 (qDy m c) :=
  ((Vc_arr m c 4).trans (array0_4 m c)).trans (congrArg cast3 (V_main_v53 m c))
theorem Vc_main_v54_3 (c : Dev nD) : Vc m c (Proc.devRef .tc main_v54_3) = cast4 (qDy m c) :=
  ((Vc_arr m c 5).trans (array0_5 m c)).trans (congrArg cast4 (V_main_v53 m c))

/-- What the reference leaves in the gradient, -/
theorem end_main_v67 (c : Dev nD) : Pipeline.afterTail₀ cfgs (dats m) 0 (V0 m) [hostOps1] c main_v67
    = dwR (hatR okX (cast2 (qX m c)) (sX m c)) (hatR okDy (cast4 (qDy m c)) (sDy m c)) := by
  refine (tail_main_v67 (Vc m c)).trans ?_
  rw [Vc_main_v18, Vc_main_v45, Vc_main_v54_1, Vc_main_v54_3]
/-- in the codes, -/
theorem end_main_v68 (c : Dev nD) : Pipeline.afterTail₀ cfgs (dats m) 0 (V0 m) [hostOps1] c main_v68
    = shapeCast S8x2048x7168 (cast1 (qX m c) : Vec F S16384x7168 .fp8e4m3) shapeCasts_S16384x7168_S8x2048x7168 := by
  refine (tail_main_v68 (Vc m c)).trans ?_
  rw [Vc_main_v54_0]
theorem end_main_v69 (c : Dev nD) : Pipeline.afterTail₀ cfgs (dats m) 0 (V0 m) [hostOps1] c main_v69
    = shapeCast S8x2048x10240 (cast3 (qDy m c) : Vec F S16384x10240 .fp8e5m2) shapeCasts_S16384x10240_S8x2048x10240 := by
  refine (tail_main_v69 (Vc m c)).trans ?_
  rw [Vc_main_v54_2]
/-- and in the scales. -/
theorem end_main_v18 (c : Dev nD) : Pipeline.afterTail₀ cfgs (dats m) 0 (V0 m) [hostOps1] c main_v18 = sX m c :=
  (tail_main_v18 (Vc m c)).trans (Vc_main_v18 m c)
theorem end_main_v45 (c : Dev nD) : Pipeline.afterTail₀ cfgs (dats m) 0 (V0 m) [hostOps1] c main_v45 = sDy m c :=
  (tail_main_v45 (Vc m c)).trans (Vc_main_v45 m c)

/-- THE RUN: the five results, and the arguments unchanged. -/
theorem run_values : θ_run defs (onTc (τ := τ) (main (F := F))) ⟨m, fun _ => 0, ρ⟩ (fun r => ∀ c : Dev nD,
      r.2.mem ((c.tc : Thread nD τ).loc main_v67) = dwR (hatR okX (cast2 (qX m c)) (sX m c)) (hatR okDy (cast4 (qDy m c)) (sDy m c))
      ∧ r.2.mem ((c.tc : Thread nD τ).loc main_v68)
          = shapeCast S8x2048x7168 (cast1 (qX m c) : Vec F S16384x7168 .fp8e4m3) shapeCasts_S16384x7168_S8x2048x7168
      ∧ r.2.mem ((c.tc : Thread nD τ).loc main_v18) = sX m c
      ∧ r.2.mem ((c.tc : Thread nD τ).loc main_v69)
          = shapeCast S8x2048x10240 (cast3 (qDy m c) : Vec F S16384x10240 .fp8e5m2) shapeCasts_S16384x10240_S8x2048x10240
      ∧ r.2.mem ((c.tc : Thread nD τ).loc main_v45) = sDy m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v67 (Pipeline.mem_restRefs_of main_v67 (by decide) (by decide))).trans (end_main_v67 m c),
      ((h c).2 main_v68 (Pipeline.mem_restRefs_of main_v68 (by decide) (by decide))).trans (end_main_v68 m c),
      ((h c).2 main_v18 (Pipeline.mem_restRefs_of main_v18 (by decide) (by decide))).trans (end_main_v18 m c),
      ((h c).2 main_v69 (Pipeline.mem_restRefs_of main_v69 (by decide) (by decide))).trans (end_main_v69 m c),
      ((h c).2 main_v45 (Pipeline.mem_restRefs_of main_v45 (by decide) (by decide))).trans (end_main_v45 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.ReferenceIdeal.Gen

end
-- ==== Proof.RefValue.lean ====
/-
  The reference's steps over the extended reals, read at an index: they are the functions of `Spec` with the reference's
  scale and inverse scale.
-/
module

public import proofs.«01_k».proof.Proof.RefDefs
public import proofs.«01_k».proof.Proof.Spec
public import Idealize.ShloMosaic.Lib.IdealHost
public import Idealize.ShloMosaic.Lib.Pipeline.Value

@[expose] public section

noncomputable section

namespace Cert.Ref

open Idealize.ShloMosaic Idealize.ShloMosaic.ValueIdx Cert.Spec Cert.Scale

variable {c : ℕ} (K : Ok c)

/-- A word, repeated over an array. -/
theorem word_apply {S : Shape} (h : Z.BroadcastsInDim S ![]) (b : BitVec 32) (j : S.Idx) :
    broadcastInDim S ![] h (constant (F := Ideal) Z .f32 b) j = Ideal.ofBits .f32 b :=
  broadcastInDim_scalar_apply h _ j

/-- A token of a group, in the array of tokens. -/
theorem grouped_apply (X : (T c).Idx → EReal) (j : (A3 c).Idx) :
    grouped (F := Ideal) K X j = nat2 X (32 * (j 0).val + (j 1).val) (j 2).val := by
  have h0 : (j 0).val < 512 := (j 0).isLt
  have h1 : (j 1).val < 32 := (j 1).isLt
  have h2 : (j 2).val < c := (j 2).isLt
  unfold grouped
  rw [shapeCast_apply _ _ j (ix2 ⟨32 * (j 0).val + (j 1).val, by omega⟩ ⟨(j 2).val, h2⟩)
    (by rw [Shape.rowMajor_val_two, Shape.rowMajor_val_three]
        show (32 * (j 0).val + (j 1).val) * c + (j 2).val = ((j 0).val * 32 + (j 1).val) * c + (j 2).val
        rw [Nat.mul_comm 32])]
  exact (nat2_of X _ _ _ rfl rfl).symm

/-- A group and a token of it, back at the array's own rows. -/
theorem ungroup_apply {φ : FTy} (w : (A3 c).Idx → EReal) (j : (T c).Idx) (h0 : (j 0).val / 32 < 512) (h1 : (j 0).val % 32 < 32) :
    shapeCast (T c) w K.ungrp j = w (ix3 ⟨(j 0).val / 32, h0⟩ ⟨(j 0).val % 32, h1⟩ ⟨(j 1).val, (j 1).isLt⟩) :=
  shapeCast_apply w K.ungrp j _ (by
    rw [Shape.rowMajor_val_two, Shape.rowMajor_val_three]
    show ((j 0).val / 32 * 32 + (j 0).val % 32) * c + (j 1).val = (j 0).val * c + (j 1).val
    rw [show (j 0).val / 32 * 32 + (j 0).val % 32 = (j 0).val by omega])

/-- The word the maximum starts from. -/
theorem bot_word : Ideal.ofBits .f32 0xFF800000#32 = ⊥ := by
  show Ideal.ieee 8 23 (0xFF800000#32 : BitVec 32) = ⊥
  unfold Ideal.ieee
  rw [show ((0xFF800000#32 : BitVec 32).extractLsb' 23 8).toNat = 255 from by decide,
    show ((0xFF800000#32 : BitVec 32).extractLsb' 0 23).toNat = 0 from by decide,
    show ((0xFF800000#32 : BitVec 32).extractLsb' (8 + 23) 1 == 1#1) = true from by decide]
  simp

/-- The ratio of a group. -/
theorem ratioR_apply (cw : BitVec 32) (X : (T c).Idx → EReal) (j : (A2 c).Idx) :
    ratioR (F := Ideal) K cw (grouped (F := Ideal) K X) j = ratio cw (nat2 X) (j 0).val (j 1).val := by
  unfold ratioR
  rw [ValueIdx.mulf_apply, word_apply]
  have key := Host.reduce_eq_fold_single (FloatOps.maximumf (F := Ideal) (φ := .f32)) (Host.absf (grouped (F := Ideal) K X))
    (constant (F := Ideal) Z .f32 0xFF800000#32) K.red K.fib K.h j
  rw [key]
  unfold ratio amax
  rw [ValueIdx.constant_apply, bot_word]
  refine congrArg (fun f : Fin 32 → EReal => (Finset.univ : Finset (Fin 32)).fold max ⊥ f * Ideal.ofBits .f32 cw)
    (funext fun i => ?_)
  have hx := grouped_apply K X (K.fib.lift j i)
  exact congrArg (fun x : EReal => max x (-x)) hx

/-- The exponent of a ratio. -/
theorem expR_apply (Y : (A2 c).Idx → EReal) (j : (A2 c).Idx) : expR (F := Ideal) K Y j = rexp (Y j) := by
  unfold expR
  rw [ValueIdx.select_apply, ValueIdx.cmpf_apply, word_apply]
  show (if BitVec.ofBool (decide (Y j < Ideal.ofBits .f32 0x00800000#32)) = 1 then _ else _) = _
  unfold rexp
  by_cases h : Y j < Ideal.ofBits .f32 0x00800000#32
  · simp only [h, decide_true, if_true]
    exact word_apply K.b2 _ j
  · simp only [h, decide_false, if_false]
    rw [if_neg (by decide), ValueIdx.addf_apply, word_apply]
    refine congrArg (· + Ideal.ofBits .f32 0x3F800000#32) ?_
    show Ideal.liftRound Int.floor (Ideal.div (Ideal.log (Y j))
      (Ideal.log (broadcastInDim (A2 c) ![] K.b2 (constant (F := Ideal) Z .f32 0x40000000#32) j))) = _
    rw [word_apply]

/-- Two to an exponent. -/
theorem powR_apply (E : (A2 c).Idx → EReal) (j : (A2 c).Idx) :
    powR (F := Ideal) K E j = Ideal.pow (Ideal.ofBits .f32 0x40000000#32) (E j) := by
  show Ideal.pow (broadcastInDim (A2 c) ![] K.b2 (constant (F := Ideal) Z .f32 0x40000000#32) j) (E j) = _
  rw [word_apply]

/-- A value per group and column, repeated along the group's tokens. -/
theorem spreadR_apply {φ : FTy} (S : (A2 c).Idx → EReal) (j : (A3 c).Idx) (h0 : (j 0).val < 512) (h2 : (j 2).val < c) :
    spreadR (F := Ideal) (φ := φ) K S j = S (ix2 ⟨(j 0).val, h0⟩ ⟨(j 2).val, h2⟩) := by
  have hc : c = 1 → (j 2).val = 0 := fun h => by omega
  unfold spreadR
  rw [broadcastInDim_apply _ _ _ j (ix3 ⟨(j 0).val, h0⟩ ⟨0, by omega⟩ ⟨(j 2).val, h2⟩ : (A21 c).Idx)
      (by intro a
          match a with
          | ⟨0, _⟩ => rfl
          | ⟨1, _⟩ => rfl
          | ⟨2, _⟩ => show (j 2).val = if c = 1 then 0 else (j 2).val
                      split
                      · rename_i h; exact hc h
                      · rfl),
    broadcastInDim_apply _ _ _ _ (ix2 ⟨(j 0).val, h0⟩ ⟨(j 2).val, h2⟩ : (A2 c).Idx)
      (by intro a
          match a with
          | ⟨0, _⟩ => rfl
          | ⟨1, _⟩ => show (j 2).val = if c = 1 then 0 else (j 2).val
                      split
                      · rename_i h; exact hc h
                      · rfl)]

/-- The scales of an operand. -/
theorem scalesR_apply (cw : BitVec 32) (X : (T c).Idx → EReal) (j : (A2 c).Idx) :
    scalesR (F := Ideal) K cw X j = rscale (ratio cw (nat2 X) (j 0).val (j 1).val) := by
  unfold scalesR rscale
  rw [powR_apply, expR_apply, ratioR_apply]

/-- The inverse scales. -/
theorem invR_apply (cw : BitVec 32) (X : (T c).Idx → EReal) (j : (A2 c).Idx) :
    powR (F := Ideal) K (Host.negf (expR (F := Ideal) K (ratioR (F := Ideal) K cw (grouped (F := Ideal) K X)))) j
      = rinv (ratio cw (nat2 X) (j 0).val (j 1).val) := by
  rw [powR_apply]
  show Ideal.pow _ (-(expR (F := Ideal) K (ratioR (F := Ideal) K cw (grouped (F := Ideal) K X)) j)) = _
  rw [expR_apply, ratioR_apply]
  rfl

/-- The clipped values of an operand. -/
theorem clippedR_apply (cw lo hi : BitVec 32) (X : (T c).Idx → EReal) (j : (T c).Idx) :
    clippedR (F := Ideal) K cw lo hi X j = codes rinv cw lo hi (nat2 X) (j 0).val (j 1).val := by
  have h0 : (j 0).val < 16384 := (j 0).isLt
  unfold clippedR clipR
  rw [ungroup_apply (φ := .f32) K _ j (by omega) (by omega), ValueIdx.minimumf_apply, ValueIdx.maximumf_apply, ValueIdx.mulf_apply,
    spreadR_apply K _ _ (by show (j 0).val / 32 < 512; omega) (j 1).isLt, invR_apply, grouped_apply]
  unfold codes
  refine congrArg₂ min (word_apply K.b3 _ _) (congrArg₂ max (word_apply K.b3 _ _) ?_)
  refine congrArg₂ (· * ·) (congrArg₂ (nat2 X) ?_ rfl) rfl
  show 32 * ((j 0).val / 32) + (j 0).val % 32 = (j 0).val
  omega

/-- A dequantised operand: its codes times its scales. -/
theorem hatR_apply (W : (T c).Idx → EReal) (S : (A2 c).Idx → EReal) (j : (T c).Idx) :
    hatR (F := Ideal) K W S j = W j * nat2 S ((j 0).val / 32) (j 1).val := by
  have h0 : (j 0).val < 16384 := (j 0).isLt
  unfold hatR
  rw [ungroup_apply (φ := .bf16) K _ j (by omega) (by omega), ValueIdx.mulf_apply,
    spreadR_apply K _ _ (by show (j 0).val / 32 < 512; omega) (j 1).isLt]
  refine congrArg₂ (· * ·) ?_ (nat2_of S _ _ _ rfl rfl).symm
  exact shapeCast_apply W K.grp _ j (by
    rw [Shape.rowMajor_val_two, Shape.rowMajor_val_three]
    show (j 0).val * c + (j 1).val = ((j 0).val / 32 * 32 + (j 0).val % 32) * c + (j 1).val
    rw [show (j 0).val / 32 * 32 + (j 0).val % 32 = (j 0).val by omega])

end Cert.Ref

end
-- ==== Proof.RefResults.lean ====
/-
  The reference's results over the extended reals, as the functions of `Spec`.
-/
module

public import proofs.«01_k».proof.Proof.RefRun
public import proofs.«01_k».proof.Proof.RefValue
public import Idealize.ShloMosaic.Lib.Pointwise.Contract

@[expose] public section

set_option maxRecDepth 16384

noncomputable section

namespace Cert.ReferenceIdeal.Gen

open Idealize.ShloMosaic Idealize.ShloMosaic.TcCoe Idealize.SL.Sem Cert.Spec Cert.Scale Cert.Ref

/-- The product along the tokens, at an index. -/
theorem dwR_apply (P : S16384x7168.Idx → EReal) (Q : S16384x10240.Idx → EReal) (j : S7168x10240.Idx) :
    dwR (F := Ideal) P Q j = ∑ k : Fin 16384, nat2 P k.val (j 0).val * nat2 Q k.val (j 1).val := by
  unfold dwR
  show Ideal.matmul dot_S16384x7168_S16384x10240_S7168x10240_0_0_1_1_n_n P Q (fun _ => 0) j = _
  rw [Ideal.matmul_apply₁ _ (a := 0) rfl (K := 16384) rfl, zero_add]
  refine Finset.sum_congr rfl fun k _ => ?_
  exact congrArg₂ (· * ·) (nat2_of P _ _ _ rfl rfl).symm (nat2_of Q _ _ _ rfl rfl).symm

/-- The casts keep the values. -/
theorem cast1_ideal (A : S16384x7168.Idx → EReal) : cast1 (F := Ideal) A = A := rfl
theorem cast2_ideal (A : S16384x7168.Idx → EReal) : cast2 (F := Ideal) A = A := rfl
theorem cast3_ideal (A : S16384x10240.Idx → EReal) : cast3 (F := Ideal) A = A := rfl
theorem cast4_ideal (A : S16384x10240.Idx → EReal) : cast4 (F := Ideal) A = A := rfl

/-- The codes of x. -/
theorem clippedX (X : S16384x7168.Idx → EReal) : clippedR (F := Ideal) okX 0x3B124925#32 0xC3E00000#32 0x43E00000#32 X
    = fun j => codes rinv 0x3B124925#32 0xC3E00000#32 0x43E00000#32 (nat2 X) (j 0).val (j 1).val :=
  funext fun j => clippedR_apply okX _ _ _ X j
/-- The codes of dy. -/
theorem clippedDy (X : S16384x10240.Idx → EReal) : clippedR (F := Ideal) okDy 0x37924925#32 0xC7600000#32 0x47600000#32 X
    = fun j => codes rinv 0x37924925#32 0xC7600000#32 0x47600000#32 (nat2 X) (j 0).val (j 1).val :=
  funext fun j => clippedR_apply okDy _ _ _ X j
/-- The scales of x. -/
theorem scalesX_ref (X : S16384x7168.Idx → EReal) : scalesR (F := Ideal) okX 0x3B124925#32 X
    = fun j => rscale (ratio 0x3B124925#32 (nat2 X) (j 0).val (j 1).val) := funext fun j => scalesR_apply okX _ X j
/-- The scales of dy. -/
theorem scalesDy_ref (X : S16384x10240.Idx → EReal) : scalesR (F := Ideal) okDy 0x37924925#32 X
    = fun j => rscale (ratio 0x37924925#32 (nat2 X) (j 0).val (j 1).val) := funext fun j => scalesR_apply okDy _ X j

/-- The product of codes and scales is the dequantised value. -/
theorem hat_at {c : ℕ} (K : Ok c) (cw lo hi : BitVec 32) (X : (Cert.Ref.T c).Idx → EReal) (t n : ℕ) (ht : t < 16384) (hn : n < c) :
    nat2 (hatR (F := Ideal) K (fun j => codes rinv cw lo hi (nat2 X) (j 0).val (j 1).val)
      (fun j => rscale (ratio cw (nat2 X) (j 0).val (j 1).val))) t n = deq rscale rinv cw lo hi (nat2 X) t n := by
  refine (nat2_of _ (ValueIdx.ix2 ⟨t, ht⟩ ⟨n, hn⟩) t n rfl rfl).trans ?_
  rw [hatR_apply]
  unfold deq
  refine congrArg₂ (· * ·) rfl ?_
  exact nat2_of _ (ValueIdx.ix2 ⟨t / 32, by omega⟩ ⟨n, hn⟩) _ _ rfl rfl

/-- The gradient. -/
theorem gradient_ref (X : S16384x7168.Idx → EReal) (Y : S16384x10240.Idx → EReal) :
    dwR (F := Ideal)
      (hatR (F := Ideal) okX (cast2 (F := Ideal) (clippedR (F := Ideal) okX 0x3B124925#32 0xC3E00000#32 0x43E00000#32 X))
        (scalesR (F := Ideal) okX 0x3B124925#32 X))
      (hatR (F := Ideal) okDy (cast4 (F := Ideal) (clippedR (F := Ideal) okDy 0x37924925#32 0xC7600000#32 0x47600000#32 Y))
        (scalesR (F := Ideal) okDy 0x37924925#32 Y))
      = fun j => ∑ k : Fin 16384, deq rscale rinv 0x3B124925#32 0xC3E00000#32 0x43E00000#32 (nat2 X) k.val (j 0).val
          * deq rscale rinv 0x37924925#32 0xC7600000#32 0x47600000#32 (nat2 Y) k.val (j 1).val := by
  rw [clippedX, clippedDy, scalesX_ref, scalesDy_ref, cast2_ideal, cast4_ideal]
  funext j
  rw [dwR_apply]
  refine Finset.sum_congr rfl fun k _ => ?_
  rw [hat_at okX _ _ _ _ _ _ k.isLt (j 0).isLt, hat_at okDy _ _ _ _ _ _ k.isLt (j 1).isLt]

end Cert.ReferenceIdeal.Gen

end
-- ==== Proof.Bounds.lean ====
/-
  Inputs that are at most the greatest bfloat16 number in absolute value have ratios from 0 up to 2 ^ 126, where the
  kernel's scales are the reference's.
-/
module

public import proofs.«01_k».proof.Proof.Spec
public import proofs.«01_k».proof.Proof.Gen.Pre_finite
public import Idealize.ShloMosaic.Lib.ReduceAll
public import Idealize.ShloMosaic.Lib.IdealHost
public import Idealize.ShloMosaic.Lib.WordCmp

@[expose] public section

noncomputable section

namespace Cert.Spec

open Idealize.ShloMosaic Cert.Scale

/-- The greatest bfloat16 number, -/
abbrev top16 : EReal := Ideal.ofBits .f32 0x7F7F0000#32

/-- as a real, -/
theorem top16_eq : top16 = (((2 ^ 23 + 8323072 : ℝ) * (2 : ℝ) ^ (104 : ℤ) : ℝ) : EReal) := by
  show Ideal.ieee 8 23 (0x7F7F0000#32 : BitVec 32) = _
  unfold Ideal.ieee
  rw [show ((0x7F7F0000#32 : BitVec 32).extractLsb' 23 8).toNat = 254 from by decide,
    show ((0x7F7F0000#32 : BitVec 32).extractLsb' 0 23).toNat = 8323072 from by decide,
    show ((0x7F7F0000#32 : BitVec 32).extractLsb' (8 + 23) 1 == 1#1) = false from by decide]
  norm_num

/-- and the constants of the two formats: one over 448, -/
theorem cwX_eq : Ideal.ofBits .f32 0x3B124925#32 = (((2 ^ 23 + 1198373 : ℝ) * (2 : ℝ) ^ (-32 : ℤ) : ℝ) : EReal) := by
  show Ideal.ieee 8 23 (0x3B124925#32 : BitVec 32) = _
  unfold Ideal.ieee
  rw [show ((0x3B124925#32 : BitVec 32).extractLsb' 23 8).toNat = 118 from by decide,
    show ((0x3B124925#32 : BitVec 32).extractLsb' 0 23).toNat = 1198373 from by decide,
    show ((0x3B124925#32 : BitVec 32).extractLsb' (8 + 23) 1 == 1#1) = false from by decide]
  norm_num

/-- and one over 57344. -/
theorem cwDy_eq : Ideal.ofBits .f32 0x37924925#32 = (((2 ^ 23 + 1198373 : ℝ) * (2 : ℝ) ^ (-39 : ℤ) : ℝ) : EReal) := by
  show Ideal.ieee 8 23 (0x37924925#32 : BitVec 32) = _
  unfold Ideal.ieee
  rw [show ((0x37924925#32 : BitVec 32).extractLsb' 23 8).toNat = 111 from by decide,
    show ((0x37924925#32 : BitVec 32).extractLsb' 0 23).toNat = 1198373 from by decide,
    show ((0x37924925#32 : BitVec 32).extractLsb' (8 + 23) 1 == 1#1) = false from by decide]
  norm_num

/-- An absolute value is not negative. -/
theorem abs_nonneg' (x : EReal) : 0 ≤ max x (-x) := by
  rcases le_total 0 x with h | h
  · exact le_max_of_le_left h
  · exact le_max_of_le_right (by rw [EReal.le_neg, neg_zero]; exact h)

/-- The greatest of 32 absolute values is not negative, -/
theorem amax_nonneg (f : Fin 32 → EReal) : 0 ≤ amax f := by
  unfold amax
  rw [Finset.le_fold_max]
  exact Or.inr ⟨0, Finset.mem_univ _, abs_nonneg' _⟩

/-- and at most a bound of them all. -/
theorem amax_le (f : Fin 32 → EReal) (B : EReal) (h : ∀ i, max (f i) (-(f i)) ≤ B) : amax f ≤ B := by
  unfold amax
  rw [Finset.fold_max_le]
  exact ⟨bot_le, fun i _ => h i⟩

/-- An array is bounded by the greatest bfloat16 number. -/
def Bounded (X : ℕ → ℕ → EReal) : Prop := ∀ t n, max (X t n) (-(X t n)) ≤ top16

/-- The ratios of a bounded array, for a constant that is a small real. -/
theorem ratio_bounds (cw : BitVec 32) (w : ℝ) (hw : Ideal.ofBits .f32 cw = (w : EReal)) (h0 : 0 ≤ w)
    (h1 : (2 ^ 23 + 8323072 : ℝ) * (2 : ℝ) ^ (104 : ℤ) * w < (2 : ℝ) ^ (126 : ℤ)) (X : ℕ → ℕ → EReal) (hX : Bounded X) (b c : ℕ) :
    0 ≤ ratio cw X b c ∧ ratio cw X b c < G 253 := by
  unfold ratio
  have hw0 : (0 : EReal) ≤ Ideal.ofBits .f32 cw := by rw [hw]; exact_mod_cast h0
  constructor
  · exact mul_nonneg (amax_nonneg _) hw0
  · refine lt_of_le_of_lt (mul_le_mul_of_nonneg_right (amax_le _ _ fun i => hX _ _) hw0) ?_
    rw [top16_eq, hw, G_mid _ (by omega) (by omega), ← EReal.coe_mul, show ((253 : ℕ) : ℤ) - 127 = 126 by norm_num]
    exact EReal.coe_lt_coe_iff.mpr h1

/-- x's scales, of a bounded array: the kernel's are the reference's, -/
theorem scalesX_agree (X : ℕ → ℕ → EReal) (hX : Bounded X) (b c : ℕ) :
    kscale (ratio 0x3B124925#32 X b c) = rscale (ratio 0x3B124925#32 X b c)
      ∧ kinv (ratio 0x3B124925#32 X b c) = rinv (ratio 0x3B124925#32 X b c) := by
  obtain ⟨h0, h1⟩ := ratio_bounds 0x3B124925#32 _ cwX_eq (by positivity) (by norm_num) X hX b c
  exact scales_eq _ h0 h1

/-- and dy's. -/
theorem scalesDy_agree (X : ℕ → ℕ → EReal) (hX : Bounded X) (b c : ℕ) :
    kscale (ratio 0x37924925#32 X b c) = rscale (ratio 0x37924925#32 X b c)
      ∧ kinv (ratio 0x37924925#32 X b c) = rinv (ratio 0x37924925#32 X b c) := by
  obtain ⟨h0, h1⟩ := ratio_bounds 0x37924925#32 _ cwDy_eq (by positivity) (by norm_num) X hX b c
  exact scales_eq _ h0 h1

/-- A bounded array stays so at natural coordinates. -/
theorem bounded_nat2 {a b : ℕ} (X : (⟨2, ![a, b]⟩ : Shape).Idx → EReal) (h : ∀ j, max (X j) (-(X j)) ≤ top16) :
    Bounded (nat2 X) := by
  intro t n
  unfold nat2
  split
  · exact h _
  · rw [neg_zero, max_self, top16_eq]
    exact_mod_cast (by positivity : (0 : ℝ) ≤ (2 ^ 23 + 8323072 : ℝ) * (2 : ℝ) ^ (104 : ℤ))

/-- Reshaping keeps it bounded. -/
theorem bounded_cast {s t : Shape} (X : s.Idx → EReal) (h : s.ShapeCasts t) (hX : ∀ j, max (X j) (-(X j)) ≤ top16) (j : t.Idx) :
    max (shapeCast t X h j) (-(shapeCast t X h j)) ≤ top16 := hX _

end Cert.Spec

namespace Cert.Pre_finite

open Idealize.ShloMosaic Cert.Spec Cert.Pre_finite.Gen

/-- A comparison that holds. -/
theorem of_ole (x y : EReal) (h : Ideal.cmp .ole x y = 1#1) : x ≤ y := by
  have h' : BitVec.ofBool (decide (x ≤ y)) = 1#1 := h
  by_contra hn
  simp [hn] at h'

/-- A test of every element that holds, at an element. -/
theorem all_ole {S : Shape} {axes : List (Fin S.rank)} (X : S.Idx → EReal) (hb : S_.BroadcastsInDim S ![])
    (hr : S.ReducesTo axes S_) (hu : 0 < S_.numel) (hw : FTy.bits .bf16 < FTy.bits .f32)
    (e : Host.reduce IntOp.andi (cmpf (F := Ideal) .ole (Host.absf (extf (F := Ideal) (φ := .bf16) .f32 X hw))
      (broadcastInDim S ![] hb (constant (F := Ideal) S_ .f32 0x7F7F0000#32))) (constantI S_ 1 1#1) hr hu (fun a => a.elim0) = 1#1)
    (j : S.Idx) : max (X j) (-(X j)) ≤ top16 := by
  haveI : Subsingleton S_.Idx := ⟨fun a b => funext fun x => x.elim0⟩
  have h := Host.reduce_andi_all _ _ hr hu _ e j
  rw [ValueIdx.cmpf_apply, ValueIdx.broadcastInDim_scalar_apply] at h
  exact of_ole _ _ h

/-- THE PRECONDITION bounds both arguments. -/
theorem bounded (X : S8x2048x7168.Idx → EReal) (Y : S8x2048x10240.Idx → EReal) (h : fn (F := Ideal) X Y = fun _ => 1#1) :
    (∀ j, max (X j) (-(X j)) ≤ top16) ∧ (∀ j, max (Y j) (-(Y j)) ≤ top16) := by
  have e := congrFun h (fun a => a.elim0)
  unfold fn at e
  dsimp only at e
  obtain ⟨e1, e2⟩ := IntOp.andi_eq_one.mp (show IntOp.andi _ _ = 1#1 from e)
  exact ⟨all_ole X _ _ _ _ e1, all_ole Y _ _ _ _ e2⟩

end Cert.Pre_finite

end
-- ==== Proof.Equation.lean ====
/-
  THE EQUATION: on bounded arguments the kernel's arrays are the reference's.
-/
module

public import proofs.«01_k».proof.Proof.KernelValue
public import proofs.«01_k».proof.Proof.RefResults
public import proofs.«01_k».proof.Proof.Bounds

@[expose] public section

set_option maxRecDepth 16384

noncomputable section

namespace Cert.Equation

open Idealize.ShloMosaic Cert.Spec Cert.Scale Cert.KernelIdeal Cert.KernelIdeal.Gen
open Cert.ReferenceIdeal.Gen (okX okDy dwR cast1 cast2 cast3 cast4 clippedX clippedDy scalesX_ref scalesDy_ref gradient_ref)
open Cert.Ref (hatR clippedR scalesR)

/-- The scales of x. -/
theorem scalesX_eq (X : S16384x7168.Idx → EReal) (h : Bounded (nat2 X)) :
    scalesX X = scalesR (F := Ideal) okX 0x3B124925#32 X := by
  rw [scalesX_ref]
  exact funext fun j => (scalesX_agree _ h _ _).1

/-- The scales of dy. -/
theorem scalesDy_eq (X : S16384x10240.Idx → EReal) (h : Bounded (nat2 X)) :
    scalesDy X = scalesR (F := Ideal) okDy 0x37924925#32 X := by
  rw [scalesDy_ref]
  exact funext fun j => (scalesDy_agree _ h _ _).1

/-- A code of x, -/
theorem codesX_at (X : ℕ → ℕ → EReal) (h : Bounded X) (t n : ℕ) :
    codes kinv 0x3B124925#32 0xC3E00000#32 0x43E00000#32 X t n = codes rinv 0x3B124925#32 0xC3E00000#32 0x43E00000#32 X t n := by
  unfold codes
  rw [(scalesX_agree X h _ _).2]
/-- and of dy; -/
theorem codesDy_at (X : ℕ → ℕ → EReal) (h : Bounded X) (t n : ℕ) :
    codes kinv 0x37924925#32 0xC7600000#32 0x47600000#32 X t n = codes rinv 0x37924925#32 0xC7600000#32 0x47600000#32 X t n := by
  unfold codes
  rw [(scalesDy_agree X h _ _).2]
/-- a dequantised value of x, -/
theorem deqX_at (X : ℕ → ℕ → EReal) (h : Bounded X) (t n : ℕ) :
    deq kscale kinv 0x3B124925#32 0xC3E00000#32 0x43E00000#32 X t n
      = deq rscale rinv 0x3B124925#32 0xC3E00000#32 0x43E00000#32 X t n := by
  unfold deq
  rw [codesX_at X h, (scalesX_agree X h _ _).1]
/-- and of dy. -/
theorem deqDy_at (X : ℕ → ℕ → EReal) (h : Bounded X) (t n : ℕ) :
    deq kscale kinv 0x37924925#32 0xC7600000#32 0x47600000#32 X t n
      = deq rscale rinv 0x37924925#32 0xC7600000#32 0x47600000#32 X t n := by
  unfold deq
  rw [codesDy_at X h, (scalesDy_agree X h _ _).1]

/-- The codes of x. -/
theorem codesX_eq (X : S16384x7168.Idx → EReal) (h : Bounded (nat2 X)) :
    codesX X = cast1 (F := Ideal) (clippedR (F := Ideal) okX 0x3B124925#32 0xC3E00000#32 0x43E00000#32 X) := by
  rw [clippedX]
  exact funext fun j => codesX_at _ h _ _

/-- The codes of dy. -/
theorem codesDy_eq (X : S16384x10240.Idx → EReal) (h : Bounded (nat2 X)) :
    codesDy X = cast3 (F := Ideal) (clippedR (F := Ideal) okDy 0x37924925#32 0xC7600000#32 0x47600000#32 X) := by
  rw [clippedDy]
  exact funext fun j => codesDy_at _ h _ _

/-- The kernel's dequantised x, stored with tokens along columns, -/
theorem nat2_deqX (X : S16384x7168.Idx → EReal) (n t : ℕ) (hn : n < 7168) (ht : t < 16384) :
    nat2 (deqX X) n t = deq kscale kinv 0x3B124925#32 0xC3E00000#32 0x43E00000#32 (nat2 X) t n :=
  nat2_of (deqX X) (ValueIdx.ix2 ⟨n, hn⟩ ⟨t, ht⟩) n t rfl rfl
/-- and dequantised dy, with tokens along rows. -/
theorem nat2_deqDy (X : S16384x10240.Idx → EReal) (t n : ℕ) (ht : t < 16384) (hn : n < 10240) :
    nat2 (deqDy X) t n = deq kscale kinv 0x37924925#32 0xC7600000#32 0x47600000#32 (nat2 X) t n :=
  nat2_of (deqDy X) (ValueIdx.ix2 ⟨t, ht⟩ ⟨n, hn⟩) t n rfl rfl

/-- THE WEIGHT GRADIENT. -/
theorem gradient_eq (X : S16384x7168.Idx → EReal) (Y : S16384x10240.Idx → EReal) (hX : Bounded (nat2 X)) (hY : Bounded (nat2 Y)) :
    mm (deqX X) (deqDy Y) = dwR (F := Ideal)
      (hatR (F := Ideal) okX (cast2 (F := Ideal) (clippedR (F := Ideal) okX 0x3B124925#32 0xC3E00000#32 0x43E00000#32 X))
        (scalesR (F := Ideal) okX 0x3B124925#32 X))
      (hatR (F := Ideal) okDy (cast4 (F := Ideal) (clippedR (F := Ideal) okDy 0x37924925#32 0xC7600000#32 0x47600000#32 Y))
        (scalesR (F := Ideal) okDy 0x37924925#32 Y)) := by
  rw [gradient_ref]
  funext j
  unfold mm
  refine Finset.sum_congr rfl fun k _ => ?_
  rw [nat2_deqX X _ _ (j 0).isLt k.isLt, nat2_deqDy Y _ _ k.isLt (j 1).isLt, deqX_at _ hX, deqDy_at _ hY]

end Cert.Equation

end
-- ==== Proof.Algebraic.lean ====
/-
  The algebraic claim: from equal, finite arguments the kernel and the reference leave the same five results.
-/
module

public import proofs.«01_k».proof.Defs
public import proofs.«01_k».proof.Proof.KernelRun
public import proofs.«01_k».proof.Proof.Equation

@[expose] public section

set_option maxRecDepth 16384

noncomputable section

namespace Cert.Equation

open Idealize.ShloMosaic Idealize.SL.Sem Cert.Spec

/-- The precondition bounds x, its tokens in one axis, -/
theorem boundedX (m : (ℓ : Loc Cert.KernelIdeal.nD Cert.KernelIdeal.τ Cert.KernelIdeal.sig) → Buf (Elt Ideal) ℓ)
    (h : Cert.Pre_KernelIdeal_finite m) (c : Dev Cert.KernelIdeal.nD) : Bounded (nat2 (Cert.KernelIdeal.Gen.flatX m c)) :=
  bounded_nat2 _ fun j => bounded_cast _ _ (Cert.Pre_finite.bounded _ _ (h c)).1 j

/-- and dy. -/
theorem boundedDy (m : (ℓ : Loc Cert.KernelIdeal.nD Cert.KernelIdeal.τ Cert.KernelIdeal.sig) → Buf (Elt Ideal) ℓ)
    (h : Cert.Pre_KernelIdeal_finite m) (c : Dev Cert.KernelIdeal.nD) : Bounded (nat2 (Cert.KernelIdeal.Gen.flatDy m c)) :=
  bounded_nat2 _ fun j => bounded_cast _ _ (Cert.Pre_finite.bounded _ _ (h c)).2 j

/-- The reference's x is the kernel's, -/
theorem tokX_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.tokX m' c = Cert.KernelIdeal.Gen.flatX m c :=
  congrArg (fun x : Cert.KernelIdeal.S8x2048x7168.Idx → EReal =>
    shapeCast Cert.KernelIdeal.S16384x7168 x Cert.KernelIdeal.Gen.shapeCasts_S8x2048x7168_S16384x7168) h

/-- and so is its dy. -/
theorem tokDy_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Gen.tokDy m' c = Cert.KernelIdeal.Gen.flatDy m c :=
  congrArg (fun x : Cert.KernelIdeal.S8x2048x10240.Idx → EReal =>
    shapeCast Cert.KernelIdeal.S16384x10240 x Cert.KernelIdeal.Gen.shapeCasts_S8x2048x10240_S16384x10240) h

/-- THE ALGEBRAIC CLAIM. -/
theorem algebraic : Cert.algebraic_KernelIdeal_ReferenceIdeal_pre_finite := by
  intro m g m' g' hpre hargs
  refine ⟨fun c => Cert.ReferenceIdeal.Gen.dwR (F := Ideal)
        (Cert.Ref.hatR (F := Ideal) Cert.ReferenceIdeal.Gen.okX (Cert.ReferenceIdeal.Gen.cast2 (F := Ideal) (Cert.ReferenceIdeal.Gen.qX m' c))
          (Cert.ReferenceIdeal.Gen.sX m' c))
        (Cert.Ref.hatR (F := Ideal) Cert.ReferenceIdeal.Gen.okDy (Cert.ReferenceIdeal.Gen.cast4 (F := Ideal) (Cert.ReferenceIdeal.Gen.qDy m' c))
          (Cert.ReferenceIdeal.Gen.sDy m' c)),
      fun c => shapeCast Cert.ReferenceIdeal.S8x2048x7168
        (Cert.ReferenceIdeal.Gen.cast1 (Cert.ReferenceIdeal.Gen.qX m' c) : Vec Ideal Cert.ReferenceIdeal.S16384x7168 .fp8e4m3)
        Cert.ReferenceIdeal.Gen.shapeCasts_S16384x7168_S8x2048x7168,
      fun c => Cert.ReferenceIdeal.Gen.sX m' c,
      fun c => shapeCast Cert.ReferenceIdeal.S8x2048x10240
        (Cert.ReferenceIdeal.Gen.cast3 (Cert.ReferenceIdeal.Gen.qDy m' c) : Vec Ideal Cert.ReferenceIdeal.S16384x10240 .fp8e5m2)
        Cert.ReferenceIdeal.Gen.shapeCasts_S16384x10240_S8x2048x10240,
      fun c => Cert.ReferenceIdeal.Gen.sDy m' c, ?_, Cert.ReferenceIdeal.Gen.run_values m' g'⟩
  refine (θ_run _ _ _).mono (fun r h c => ?_) (Cert.KernelIdeal.Gen.run_values m g)
  obtain ⟨h1, h2, h3, h4, h5, h6, h7⟩ := h c
  have eX := tokX_eq m m' c (hargs c).1
  have eDy := tokDy_eq m m' c (hargs c).2
  have bX := boundedX m hpre c
  have bDy := boundedDy m hpre c
  refine ⟨h1.trans ?_, h2.trans ?_, h3.trans ?_, h4.trans ?_, h5.trans ?_, h6, h7⟩
  · rw [Cert.KernelIdeal.Gen.res_main_v4, gradient_eq _ _ bX bDy]
    dsimp only [Cert.ReferenceIdeal.Gen.qX, Cert.ReferenceIdeal.Gen.sX, Cert.ReferenceIdeal.Gen.qDy, Cert.ReferenceIdeal.Gen.sDy]
    rw [eX, eDy]
  · rw [Cert.KernelIdeal.Gen.res_main_v5, codesX_eq _ bX]
    dsimp only [Cert.ReferenceIdeal.Gen.qX]
    rw [eX]
  · rw [Cert.KernelIdeal.Gen.res_main_v1_1, scalesX_eq _ bX]
    dsimp only [Cert.ReferenceIdeal.Gen.sX]
    rw [eX]
  · rw [Cert.KernelIdeal.Gen.res_main_v6, codesDy_eq _ bDy]
    dsimp only [Cert.ReferenceIdeal.Gen.qDy]
    rw [eDy]
  · rw [Cert.KernelIdeal.Gen.res_main_v3_1, scalesDy_eq _ bDy]
    dsimp only [Cert.ReferenceIdeal.Gen.sDy]
    rw [eDy]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate: the three frames, the ideal program as the kernel's, and the algebraic claim. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  Cert.Equation.algebraic⟩

end Cert.Proof

end
